-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S1x2048 : Shape := ⟨2, ![1, 2048]⟩
abbrev S768 : Shape := ⟨1, ![768]⟩
abbrev S768x64 : Shape := ⟨2, ![768, 64]⟩
abbrev S64x768x128 : Shape := ⟨3, ![64, 768, 128]⟩
abbrev S64x128x768 : Shape := ⟨3, ![64, 128, 768]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S768x64 : S_.BroadcastsInDim S768x64 (![] : Fin 0 → Fin S768x64.rank)
  reducesTo_S768x64_S_d0_1 : S768x64.ReducesTo [0, 1] S_

variable [Facts]

def fn {F : FTy → Type} [FloatOps F] (main_arg0 : FVec F S1x2048x768 .f32) (main_arg1 : FVec F S1x2048 .f32) (main_arg2 : IVec S1x2048 32) (main_arg3 : FVec F S768 .f32) (main_arg4 : FVec F S768x64 .f32) (main_arg5 : FVec F S64x768x128 .f32) (main_arg6 : FVec F S64x768x128 .f32) (main_arg7 : FVec F S64x128x768 .f32) : IVec S_ 1 :=
  let main_v0 : FVec F S768 .f32 := Host.absf main_arg3
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768x64 .f32 := Host.absf main_arg4
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  main_v8
-- ==== Kernel.lean ====
abbrev S1x2048x768 : Shape := ⟨3, ![1, 2048, 768]⟩
abbrev S1x2048 : Shape := ⟨2, ![1, 2048]⟩
abbrev S768 : Shape := ⟨1, ![768]⟩
abbrev S768x64 : Shape := ⟨2, ![768, 64]⟩
abbrev S64x768x128 : Shape := ⟨3, ![64, 768, 128]⟩
abbrev S64x128x768 : Shape := ⟨3, ![64, 128, 768]⟩
abbrev S2048x768 : Shape := ⟨2, ![2048, 768]⟩
abbrev S1x768 : Shape := ⟨2, ![1, 768]⟩
abbrev S2048x1 : Shape := ⟨2, ![2048, 1]⟩
abbrev S2048 : Shape := ⟨1, ![2048]⟩
abbrev S2048x64 : Shape := ⟨2, ![2048, 64]⟩
abbrev S1x768x128 : Shape := ⟨3, ![1, 768, 128]⟩
abbrev S1x128x768 : Shape := ⟨3, ![1, 128, 768]⟩
abbrev S768x128 : Shape := ⟨2, ![768, 128]⟩
abbrev S2048x128 : Shape := ⟨2, ![2048, 128]⟩
abbrev S128x768 : Shape := ⟨2, ![128, 768]⟩

abbrev nBuf : Space → Nat
  | .hbm => 18
  | .vmem => 20
  | .smem => 0
  | _ => 0

abbrev bufTy : (tb : Table) → Fin (tcTables nBuf tb) → BufTy
  | .hbm, ⟨0, _⟩ => ⟨S1x2048x768, .f32⟩
  | .hbm, ⟨1, _⟩ => ⟨S1x2048, .f32⟩
  | .hbm, ⟨2, _⟩ => ⟨S1x2048, .i32⟩
  | .hbm, ⟨3, _⟩ => ⟨S768, .f32⟩
  | .hbm, ⟨4, _⟩ => ⟨S768x64, .f32⟩
  | .hbm, ⟨5, _⟩ => ⟨S64x768x128, .f32⟩
  | .hbm, ⟨6, _⟩ => ⟨S64x768x128, .f32⟩
  | .hbm, ⟨7, _⟩ => ⟨S64x128x768, .f32⟩
  | .hbm, ⟨8, _⟩ => ⟨S2048x768, .f32⟩
  | .hbm, ⟨9, _⟩ => ⟨S1x768, .f32⟩
  | .hbm, ⟨10, _⟩ => ⟨S2048x768, .f32⟩
  | .hbm, ⟨11, _⟩ => ⟨S2048x1, .i32⟩
  | .hbm, ⟨12, _⟩ => ⟨S2048x1, .i32⟩
  | .hbm, ⟨13, _⟩ => ⟨S2048x1, .f32⟩
  | .hbm, ⟨14, _⟩ => ⟨S2048x1, .f32⟩
  | .hbm, ⟨15, _⟩ => ⟨S2048x768, .f32⟩
  | .hbm, ⟨16, _⟩ => ⟨S1x2048x768, .f32⟩
  | .hbm, ⟨17, _⟩ => ⟨S1x2048x768, .f32⟩
  | .local _ .vmem, ⟨0, _⟩ => ⟨S2048x768, .f32⟩
  | .local _ .vmem, ⟨1, _⟩ => ⟨S1x768, .f32⟩
  | .local _ .vmem, ⟨2, _⟩ => ⟨S768x64, .f32⟩
  | .local _ .vmem, ⟨3, _⟩ => ⟨S2048x768, .f32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x768, .f32⟩
  | .local _ .vmem, ⟨9, _⟩ => ⟨S2048x1, .i32⟩
  | .local _ .vmem, ⟨10, _⟩ => ⟨S2048x1, .i32⟩
  | .local _ .vmem, ⟨11, _⟩ => ⟨S2048x1, .f32⟩
  | .local _ .vmem, ⟨12, _⟩ => ⟨S2048x1, .f32⟩
  | .local _ .vmem, ⟨13, _⟩ => ⟨S1x768x128, .f32⟩
  | .local _ .vmem, ⟨14, _⟩ => ⟨S1x768x128, .f32⟩
  | .local _ .vmem, ⟨15, _⟩ => ⟨S1x768x128, .f32⟩
  | .local _ .vmem, ⟨16, _⟩ => ⟨S1x768x128, .f32⟩
  | .local _ .vmem, ⟨17, _⟩ => ⟨S1x128x768, .f32⟩
  | .local _ .vmem, ⟨18, _⟩ => ⟨S1x128x768, .f32⟩
  | .local _ .vmem, ⟨19, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![64], ![false]⟩

def k1_cond1 (i : grid1.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_22 : BitVec 32 := 0#32
  let v35 : BitVec 1 := Scalar.cmpi .ne v34 c0_i32_22
  v35

def k1_cond2 (i : grid1.Coords) : BitVec 1 :=
  let arg0 : BitVec 32 := BitVec.ofNat 32 (i 0).val
  let c0_i32_23 : BitVec 32 := 0#32
  let v36 : BitVec 1 := Scalar.cmpi .sgt arg0 c0_i32_23
  let v37 : BitVec 32 := Scalar.extui v36
  let c0_i32_24 : BitVec 32 := 0#32
  let v38 : BitVec 1 := Scalar.cmpi .ne v37 c0_i32_24
  v38

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x768x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x768x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2048x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S1x2048x768 : Shape := ⟨3, ![1, 2048, 768]⟩
abbrev S1x2048 : Shape := ⟨2, ![1, 2048]⟩
abbrev S768 : Shape := ⟨1, ![768]⟩
abbrev S768x64 : Shape := ⟨2, ![768, 64]⟩
abbrev S64x768x128 : Shape := ⟨3, ![64, 768, 128]⟩
abbrev S64x128x768 : Shape := ⟨3, ![64, 128, 768]⟩
abbrev S_ : Shape := ⟨0, ![]⟩
abbrev S1x2048x1 : Shape := ⟨3, ![1, 2048, 1]⟩
abbrev S1x1x768 : Shape := ⟨3, ![1, 1, 768]⟩
abbrev S2048x768 : Shape := ⟨2, ![2048, 768]⟩
abbrev S2048x64 : Shape := ⟨2, ![2048, 64]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x64 : Shape := ⟨3, ![1, 1, 64]⟩
abbrev S2048x2x64 : Shape := ⟨3, ![2048, 2, 64]⟩
abbrev S64x128x2048 : Shape := ⟨3, ![64, 128, 2048]⟩
abbrev S64x2048x128 : Shape := ⟨3, ![64, 2048, 128]⟩
abbrev S64x2048x768 : Shape := ⟨3, ![64, 2048, 768]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S1x2048, .f32⟩
  | .hbm, ⟨2, _⟩ => ⟨S1x2048, .i32⟩
  | .hbm, ⟨3, _⟩ => ⟨S768, .f32⟩
  | .hbm, ⟨4, _⟩ => ⟨S768x64, .f32⟩
  | .hbm, ⟨5, _⟩ => ⟨S64x768x128, .f32⟩
  | .hbm, ⟨6, _⟩ => ⟨S64x768x128, .f32⟩
  | .hbm, ⟨7, _⟩ => ⟨S64x128x768, .f32⟩
  | .hbm, ⟨8, _⟩ => ⟨S1x2048x768, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x768, .f32⟩
  | .hbm, ⟨20, _⟩ => ⟨S1x2048x768, .f32⟩
  | .hbm, ⟨21, _⟩ => ⟨S1x1x768, .f32⟩
  | .hbm, ⟨22, _⟩ => ⟨S1x2048x768, .f32⟩
  | .hbm, ⟨23, _⟩ => ⟨S1x2048x768, .f32⟩
  | .hbm, ⟨24, _⟩ => ⟨S2048x768, .f32⟩
  | .hbm, ⟨25, _⟩ => ⟨S2048x64, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x1, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x64, .f32⟩
  | .hbm, ⟨39, _⟩ => ⟨S2048x64, .f32⟩
  | .hbm, ⟨40, _⟩ => ⟨S2048x2, .f32⟩
  | .hbm, ⟨41, _⟩ => ⟨S2048x2, .i32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x2, .f32⟩
  | .hbm, ⟨46, _⟩ => ⟨S2048x2, .f32⟩
  | .hbm, ⟨47, _⟩ => ⟨S2048x2x1, .i32⟩
  | .hbm, ⟨48, _⟩ => ⟨S1x1x64, .i32⟩
  | .hbm, ⟨49, _⟩ => ⟨S2048x2x64, .i32⟩
  | .hbm, ⟨50, _⟩ => ⟨S2048x2x64, .i32⟩
  | .hbm, ⟨51, _⟩ => ⟨S2048x2x64, .i1⟩
  | .hbm, ⟨52, _⟩ => ⟨S2048x2x64, .f32⟩
  | .hbm, ⟨53, _⟩ => ⟨S2048x64, .f32⟩
  | .hbm, ⟨54, _⟩ => ⟨S64x128x2048, .f32⟩
  | .hbm, ⟨55, _⟩ => ⟨S64x2048x128, .f32⟩
  | .hbm, ⟨56, _⟩ => ⟨S64x128x2048, .f32⟩
  | .hbm, ⟨57, _⟩ => ⟨S64x2048x128, .f32⟩
  | .hbm, ⟨58, _⟩ => ⟨S64x2048x128, .f32⟩
  | .hbm, ⟨59, _⟩ => ⟨S64x2048x128, .f32⟩
  | .hbm, ⟨60, _⟩ => ⟨S_, .f32⟩
  | .hbm, ⟨61, _⟩ => ⟨S64x2048x128, .f32⟩
  | .hbm, ⟨62, _⟩ => ⟨S64x2048x128, .f32⟩
  | .hbm, ⟨63, _⟩ => ⟨S_, .f32⟩
  | .hbm, ⟨64, _⟩ => ⟨S64x2048x128, .f32⟩
  | .hbm, ⟨65, _⟩ => ⟨S64x2048x128, .f32⟩
  | .hbm, ⟨66, _⟩ => ⟨S64x2048x128, .f32⟩
  | .hbm, ⟨67, _⟩ => ⟨S64x2048x128, .f32⟩
  | .hbm, ⟨68, _⟩ => ⟨S64x2048x768, .f32⟩
  | .hbm, ⟨69, _⟩ => ⟨S2048x768, .f32⟩
  | .hbm, ⟨70, _⟩ => ⟨S1x2048x768, .f32⟩
  | .hbm, ⟨71, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_values : Ref sig .tc := ⟨.hbm, 40, rfl⟩
abbrev main_indices : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]
-- ==== Proof.KernelIdeal.Route.lean ====
/- The routing pallas_call of `KernelIdeal`, at any entry contents: what its body computes from the three input arrays, and the
   proof data of its pipeline, which has a single grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Route

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The normalised rows. -/
def outH (x0 : Vec F S2048x768 .f32) (x1 : Vec F S1x768 .f32) : Vec F S2048x768 .f32 := k0_pay5 x0 x1
/-- The column of each row's first choice. -/
def outI1 (x0 : Vec F S2048x768 .f32) (x1 : Vec F S1x768 .f32) (x2 : Vec F S768x64 .f32) : Vec F S2048x1 .i32 := k0_pay8 x0 x1 x2
/-- The column of each row's second choice. -/
def outI2 (x0 : Vec F S2048x768 .f32) (x1 : Vec F S1x768 .f32) (x2 : Vec F S768x64 .f32) : Vec F S2048x1 .i32 := k0_pay11 x0 x1 x2
/-- The weight of the first choice. -/
def outW1 (x0 : Vec F S2048x768 .f32) (x1 : Vec F S1x768 .f32) (x2 : Vec F S768x64 .f32) : Vec F S2048x1 .f32 :=
  k0_pay3 (k0_pay7 x0 x1 x2) (k0_pay10 x0 x1 x2)
/-- The weight of the second choice. -/
def outW2 (x0 : Vec F S2048x768 .f32) (x1 : Vec F S1x768 .f32) (x2 : Vec F S768x64 .f32) : Vec F S2048x1 .f32 :=
  k0_pay4 (k0_pay7 x0 x1 x2) (k0_pay10 x0 x1 x2)

/-- One store of a whole buffer leaves exactly what it stored. -/
theorem read_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-- The two-axis origin, as the loads and stores write it. -/
theorem origin2 : (![0, 0] : Fin 2 → Nat) = fun _ => 0 := by decide
/-- The three-axis origin. -/
theorem origin3 : (![0, 0, 0] : Fin 3 → Nat) = fun _ => 0 := by decide
set_option maxHeartbeats 1000000 in
/-- The body on whole staging buffers: the inputs stay as they are and each output ends at its named value. -/
theorem body_triple (c : Dev nD) (E : Set ℕ) (arg0 : Memref sig .tc .vmem S2048x768 .f32) (harg0 : arg0.IsWhole) (arg1 : Memref sig .tc .vmem S1x768 .f32) (harg1 : arg1.IsWhole) (arg2 : Memref sig .tc .vmem S768x64 .f32) (harg2 : arg2.IsWhole) (arg3 : Memref sig .tc .vmem S2048x768 .f32) (harg3 : arg3.IsWhole) (arg4 : Memref sig .tc .vmem S2048x1 .i32) (harg4 : arg4.IsWhole) (arg5 : Memref sig .tc .vmem S2048x1 .i32) (harg5 : arg5.IsWhole) (arg6 : Memref sig .tc .vmem S2048x1 .f32) (harg6 : arg6.IsWhole) (arg7 : Memref sig .tc .vmem S2048x1 .f32) (harg7 : arg7.IsWhole)
    (x0 : Vec F S2048x768 .f32) (x1 : Vec F S1x768 .f32) (x2 : Vec F S768x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare (outH x0 x1) ∗ owns (c : Thread nD τ) arg4 fullShare (outI1 x0 x1 x2) ∗ owns (c : Thread nD τ) arg5 fullShare (outI2 x0 x1 x2) ∗ owns (c : Thread nD τ) arg6 fullShare (outW1 x0 x1 x2) ∗ owns (c : Thread nD τ) arg7 fullShare (outW2 x0 x1 x2)) -∗ K ⟨⟩))
      ⊢ wp frame (wpE (defs₀ (F := F)) Variants.none c none) E (cc0__route_body arg0 harg0 arg1 harg1 arg2 harg2 arg3 harg3 arg4 harg4 arg5 harg5 arg6 harg6 arg7 harg7) K := by
  simp only [cc0__route_body_eq_skeleton]; unfold cc0__route_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  have l0 := View.ld_unit_zero (S := S2048x768) origin2 inb_S2048x768_S2048x768_0_0 (arg0.view.read (Elt F) f0)
  have l1 := View.ld_unit_zero (S := S1x768) origin2 inb_S1x768_S1x768_0_0 (arg1.view.read (Elt F) f1)
  have l2 := View.ld_unit_zero (S := S768x64) origin2 inb_S768x64_S768x64_0_0 (arg2.view.read (Elt F) f2)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_store _ _ origin2 _ _).trans ?_
    unfold outH
    rfl
  isplitl [H4]
  · iexists _; isplitr
    swap; · iexact H4
    ipureintro
    refine (read_store _ _ origin2 _ _).trans ?_
    unfold outI1
    rfl
  isplitl [H5]
  · iexists _; isplitr
    swap; · iexact H5
    ipureintro
    refine (read_store _ _ origin2 _ _).trans ?_
    unfold outI2
    rfl
  isplitl [H6]
  · iexists _; isplitr
    swap; · iexact H6
    ipureintro
    refine (read_store _ _ origin2 _ _).trans ?_
    unfold outW1
    rfl
  iexists _; isplitr
  swap; · iexact H7
  ipureintro
  refine (read_store _ _ origin2 _ _).trans ?_
  unfold outW2
  rfl

/-! ## The pipeline's proof data -/

variable (V : (c : Dev nD) → (b : Ref sig .tc) → Buf (Elt F) ((c : Thread nD τ).loc b))

/-- Window `w`'s block, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: inputs keep their blocks, outputs end at the named values, nothing is owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outH (blk V c 0 t) (blk V c 1 t)
    | ⟨4, _⟩ => outI1 (blk V c 0 t) (blk V c 1 t) (blk V c 2 t)
    | ⟨5, _⟩ => outI2 (blk V c 0 t) (blk V c 1 t) (blk V c 2 t)
    | ⟨6, _⟩ => outW1 (blk V c 0 t) (blk V c 1 t) (blk V c 2 t)
    | ⟨7, _⟩ => outW2 (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = outH (blk V c 0 t) (blk V c 1 t) := by dsimp only [dat]
theorem after_4 (c : Dev nD) (t : Fin cfg0.N) : (dat V c).after 4 t = outI1 (blk V c 0 t) (blk V c 1 t) (blk V c 2 t) := by dsimp only [dat]
theorem after_5 (c : Dev nD) (t : Fin cfg0.N) : (dat V c).after 5 t = outI2 (blk V c 0 t) (blk V c 1 t) (blk V c 2 t) := by dsimp only [dat]
theorem after_6 (c : Dev nD) (t : Fin cfg0.N) : (dat V c).after 6 t = outW1 (blk V c 0 t) (blk V c 1 t) (blk V c 2 t) := by dsimp only [dat]
theorem after_7 (c : Dev nD) (t : Fin cfg0.N) : (dat V c).after 7 t = outW2 (blk V c 0 t) (blk V c 1 t) (blk V c 2 t) := by dsimp only [dat]

/-- Input window 0's staging buffer holds its block when the body starts, whether or not it was fetched at this point. -/
theorem before_in_0 (c : Dev nD) (t : Fin cfg0.N) (d) : (dat V c).before 0 t d = blk V c 0 t :=
  ((dat V c).before_in_eq_fetched 0 rfl (fun _ => rfl) (fun _ _ _ => rfl)
    (fun t => by rw [after_0]; unfold Dat.blockOf blk; rw [dat_A]) t d).trans
    (by unfold Dat.fetched Dat.blockOf blk; rw [dat_A]; rfl)
/-- Input window 1's staging buffer holds its block when the body starts, whether or not it was fetched at this point. -/
theorem before_in_1 (c : Dev nD) (t : Fin cfg0.N) (d) : (dat V c).before 1 t d = blk V c 1 t :=
  ((dat V c).before_in_eq_fetched 1 rfl (fun _ => rfl) (fun _ _ _ => rfl)
    (fun t => by rw [after_1]; unfold Dat.blockOf blk; rw [dat_A]) t d).trans
    (by unfold Dat.fetched Dat.blockOf blk; rw [dat_A]; rfl)
/-- Input window 2's staging buffer holds its block when the body starts, whether or not it was fetched at this point. -/
theorem before_in_2 (c : Dev nD) (t : Fin cfg0.N) (d) : (dat V c).before 2 t d = blk V c 2 t :=
  ((dat V c).before_in_eq_fetched 2 rfl (fun _ => rfl) (fun _ _ _ => rfl)
    (fun t => by rw [after_2]; unfold Dat.blockOf blk; rw [dat_A]) t d).trans
    (by unfold Dat.fetched Dat.blockOf blk; rw [dat_A]; rfl)

/-! ## The body obligation -/

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 800000 in
/-- The body at any point: the triple applied at the input blocks. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in_0, before_in_1, before_in_2]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dat (F := F) V c) (defs₀ (F := F)) Variants.none () Set.univ := fun t => by
  rw [bigSep_W0, bigSep_W0, defs_row]
  exact triple_restated (body_at V c t) rfl .rfl fun _ => .rfl

end Cert.KernelIdeal.Route

end

end
-- ==== Proof.KernelIdeal.Moe.lean ====
/- The expert pallas_call of `KernelIdeal`, at any entry contents: 64 grid points, one per expert, the output window kept in place
   throughout, stored at the first point and added to at every later one, and written back once at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import proofs.«01_k».proof.Proof.KernelIdeal.Route

@[expose] public section

set_option maxRecDepth 16384

noncomputable section

namespace Cert.KernelIdeal.Moe

open Cert.KernelIdeal.Gen
open Cert.KernelIdeal.Route (read_store origin2 origin3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body adds for the expert at grid coordinates `i`, from the staged blocks. -/
def contrib (i : grid1.Coords) (x0 : Vec F S2048x768 .f32) (x1 : Vec F S2048x1 .i32) (x2 : Vec F S2048x1 .i32) (x3 : Vec F S2048x1 .f32) (x4 : Vec F S2048x1 .f32) (x5 : Vec F S1x768x128 .f32) (x6 : Vec F S1x768x128 .f32) (x7 : Vec F S1x128x768 .f32) : Vec F S2048x768 .f32 :=
  k1_pay2 i x0 x5 x6 x7 x1 x3 x2 x4

/-- The running sum after one more expert. -/
def addTo (x o : Vec F S2048x768 .f32) : Vec F S2048x768 .f32 := k1_pay1 x o

/-- The body stores when the expert is the first one. -/
theorem cond_first : ∀ t : Fin cfg1.N, k1_cond1 (grid1.coords t) = 1#1 ↔ t.val = 0 :=
  (by decide +kernel : ∀ t : Fin grid1.N, k1_cond1 (grid1.coords t) = 1#1 ↔ t.val = 0)
/-- It adds at every other one. -/
theorem cond_later : ∀ t : Fin cfg1.N, k1_cond2 (grid1.coords t) = 1#1 ↔ t.val ≠ 0 :=
  (by decide +kernel : ∀ t : Fin grid1.N, k1_cond2 (grid1.coords t) = 1#1 ↔ t.val ≠ 0)

set_option maxHeartbeats 1000000 in
/-- The body at the first point, on whole staging buffers: the output ends at the contribution. -/
theorem body_triple_first (c : Dev nD) (E : Set ℕ) (i : grid1.Coords) (arg1 : Memref sig .tc .vmem S2048x768 .f32) (harg1 : arg1.IsWhole) (arg2 : Memref sig .tc .vmem S2048x1 .i32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S1x768x128 .f32) (harg6 : arg6.IsWhole) (arg7 : Memref sig .tc .vmem S1x768x128 .f32) (harg7 : arg7.IsWhole) (arg8 : Memref sig .tc .vmem S1x128x768 .f32) (harg8 : arg8.IsWhole) (arg9 : Memref sig .tc .vmem S2048x768 .f32) (harg9 : arg9.IsWhole) (hc1 : k1_cond1 i = 1#1) (hc2 : ¬k1_cond2 i = 1#1)
    (x0 : Vec F S2048x768 .f32) (x1 : Vec F S2048x1 .i32) (x2 : Vec F S2048x1 .i32) (x3 : Vec F S2048x1 .f32) (x4 : Vec F S2048x1 .f32) (x5 : Vec F S1x768x128 .f32) (x6 : Vec F S1x768x128 .f32) (x7 : Vec F S1x128x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (contrib i x0 x1 x2 x3 x4 x5 x6 x7)) -∗ K ⟨⟩))
      ⊢ wp frame (wpE (defs₀ (F := F)) Variants.none c none) E (cc1__moe_body i arg1 harg1 arg2 harg2 arg3 harg3 arg4 harg4 arg5 harg5 arg6 harg6 arg7 harg7 arg8 harg8 arg9 harg9) K := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  have l0 := View.ld_unit_zero (S := S2048x768) origin2 inb_S2048x768_S2048x768_0_0 (arg1.view.read (Elt F) f0)
  have l1 := View.ld_unit_zero (S := S2048x1) origin2 inb_S2048x1_S2048x1_0_0 (arg2.view.read (Elt F) f1)
  have l2 := View.ld_unit_zero (S := S2048x1) origin2 inb_S2048x1_S2048x1_0_0 (arg3.view.read (Elt F) f2)
  have l3 := View.ld_unit_zero (S := S2048x1) origin2 inb_S2048x1_S2048x1_0_0 (arg4.view.read (Elt F) f3)
  have l4 := View.ld_unit_zero (S := S2048x1) origin2 inb_S2048x1_S2048x1_0_0 (arg5.view.read (Elt F) f4)
  have l5 := View.ld_unit_zero (S := S1x768x128) origin3 inb_S1x768x128_S1x768x128_0_0_0 (arg6.view.read (Elt F) f5)
  have l6 := View.ld_unit_zero (S := S1x768x128) origin3 inb_S1x768x128_S1x768x128_0_0_0 (arg7.view.read (Elt F) f6)
  have l7 := View.ld_unit_zero (S := S1x128x768) origin3 inb_S1x128x768_S1x128x768_0_0_0 (arg8.view.read (Elt F) f7)
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (read_store _ _ origin2 _ _).trans ?_
  unfold contrib
  rfl

set_option maxHeartbeats 1000000 in
/-- The body at a later point: the output ends at what it held with the contribution added. -/
theorem body_triple_later (c : Dev nD) (E : Set ℕ) (i : grid1.Coords) (arg1 : Memref sig .tc .vmem S2048x768 .f32) (harg1 : arg1.IsWhole) (arg2 : Memref sig .tc .vmem S2048x1 .i32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S1x768x128 .f32) (harg6 : arg6.IsWhole) (arg7 : Memref sig .tc .vmem S1x768x128 .f32) (harg7 : arg7.IsWhole) (arg8 : Memref sig .tc .vmem S1x128x768 .f32) (harg8 : arg8.IsWhole) (arg9 : Memref sig .tc .vmem S2048x768 .f32) (harg9 : arg9.IsWhole) (hc1 : ¬k1_cond1 i = 1#1) (hc2 : k1_cond2 i = 1#1)
    (x0 : Vec F S2048x768 .f32) (x1 : Vec F S2048x1 .i32) (x2 : Vec F S2048x1 .i32) (x3 : Vec F S2048x1 .f32) (x4 : Vec F S2048x1 .f32) (x5 : Vec F S1x768x128 .f32) (x6 : Vec F S1x768x128 .f32) (x7 : Vec F S1x128x768 .f32) (o : Vec F S2048x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare o
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (addTo (contrib i x0 x1 x2 x3 x4 x5 x6 x7) o)) -∗ K ⟨⟩))
      ⊢ wp frame (wpE (defs₀ (F := F)) Variants.none c none) E (cc1__moe_body i arg1 harg1 arg2 harg2 arg3 harg3 arg4 harg4 arg5 harg5 arg6 harg6 arg7 harg7 arg8 harg8 arg9 harg9) K := by
  simp only [cc1__moe_body_eq_skeleton]; unfold cc1__moe_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  have l0 := View.ld_unit_zero (S := S2048x768) origin2 inb_S2048x768_S2048x768_0_0 (arg1.view.read (Elt F) f0)
  have l1 := View.ld_unit_zero (S := S2048x1) origin2 inb_S2048x1_S2048x1_0_0 (arg2.view.read (Elt F) f1)
  have l2 := View.ld_unit_zero (S := S2048x1) origin2 inb_S2048x1_S2048x1_0_0 (arg3.view.read (Elt F) f2)
  have l3 := View.ld_unit_zero (S := S2048x1) origin2 inb_S2048x1_S2048x1_0_0 (arg4.view.read (Elt F) f3)
  have l4 := View.ld_unit_zero (S := S2048x1) origin2 inb_S2048x1_S2048x1_0_0 (arg5.view.read (Elt F) f4)
  have l5 := View.ld_unit_zero (S := S1x768x128) origin3 inb_S1x768x128_S1x768x128_0_0_0 (arg6.view.read (Elt F) f5)
  have l6 := View.ld_unit_zero (S := S1x768x128) origin3 inb_S1x768x128_S1x768x128_0_0_0 (arg7.view.read (Elt F) f6)
  have l7 := View.ld_unit_zero (S := S1x128x768) origin3 inb_S1x128x768_S1x128x768_0_0_0 (arg8.view.read (Elt F) f7)
  have l8 := View.ld_unit_zero (S := S2048x768) origin2 inb_S2048x768_S2048x768_0_0 (arg9.view.read (Elt F) f8)
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (read_store _ _ origin2 _ _).trans ?_
  unfold addTo contrib
  refine congrArg₂ k1_pay1 ?_ rfl
  rfl

/-! ## The pipeline's proof data -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Expert `t`'s contribution, at the blocks staged for it. -/
def part (c : Dev nD) (t : Fin cfg1.N) : Vec F S2048x768 .f32 :=
  contrib (grid1.coords t) (blk V c 0 t) (blk V c 1 t) (blk V c 2 t) (blk V c 3 t) (blk V c 4 t) (blk V c 5 t) (blk V c 6 t) (blk V c 7 t)

/-- The sum of the contributions of experts `0` to `n`, added in order. -/
def acc (c : Dev nD) : (n : ℕ) → n < cfg1.N → Vec F S2048x768 .f32
  | 0, hn => part V c ⟨0, hn⟩
  | n + 1, hn => addTo (part V c ⟨n + 1, hn⟩) (acc c n (Nat.lt_of_succ_lt hn))

theorem acc_first (c : Dev nD) (t : Fin cfg1.N) (h : t.val = 0) : acc V c t.val t.isLt = part V c t := by
  obtain ⟨n, hn⟩ := t; obtain rfl : n = 0 := h; rfl

theorem acc_later (c : Dev nD) (t : Fin cfg1.N) (h : t.val ≠ 0) :
    acc V c t.val t.isLt = addTo (part V c t) (acc V c (t.val - 1) (Nat.lt_of_le_of_lt (Nat.sub_le _ _) t.isLt)) := by
  obtain ⟨n, hn⟩ := t
  cases n with
  | zero => exact absurd rfl h
  | succ n => rfl

/-- The proof data: inputs keep their blocks, the output holds the running sum, nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => acc V c t.val t.isLt
  Φ _ := Pipeline.ΦA spec1 c
  q _ := fullShare
  owed _ := 0

theorem dat_A (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = blk V c 7 t := by dsimp only [dat]
theorem after_8 (c : Dev nD) (t : Fin cfg1.N) : (dat V c).after 8 t = acc V c t.val t.isLt := by dsimp only [dat]

/-- Input window 0's staging buffer holds its block when the body starts, whether or not it was fetched at this point. -/
theorem before_in_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]) t d).trans
    (by unfold Dat.fetched Dat.blockOf blk; rw [dat_A]; rfl)
/-- Input window 1's staging buffer holds its block when the body starts, whether or not it was fetched at this point. -/
theorem before_in_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]) t d).trans
    (by unfold Dat.fetched Dat.blockOf blk; rw [dat_A]; rfl)
/-- Input window 2's staging buffer holds its block when the body starts, whether or not it was fetched at this point. -/
theorem before_in_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]) t d).trans
    (by unfold Dat.fetched Dat.blockOf blk; rw [dat_A]; rfl)
/-- Input window 3's staging buffer holds its block when the body starts, whether or not it was fetched at this point. -/
theorem before_in_3 (c : Dev nD) (t : Fin cfg1.N) (d) : (dat V c).before 3 t d = blk V c 3 t :=
  ((dat V c).before_in_eq_fetched 3 rfl (fun _ => rfl) (fun _ _ _ => rfl)
    (fun t => by rw [after_3]; unfold Dat.blockOf blk; rw [dat_A]) t d).trans
    (by unfold Dat.fetched Dat.blockOf blk; rw [dat_A]; rfl)
/-- Input window 4's staging buffer holds its block when the body starts, whether or not it was fetched at this point. -/
theorem before_in_4 (c : Dev nD) (t : Fin cfg1.N) (d) : (dat V c).before 4 t d = blk V c 4 t :=
  ((dat V c).before_in_eq_fetched 4 rfl (fun _ => rfl) (fun _ _ _ => rfl)
    (fun t => by rw [after_4]; unfold Dat.blockOf blk; rw [dat_A]) t d).trans
    (by unfold Dat.fetched Dat.blockOf blk; rw [dat_A]; rfl)
/-- Input window 5's staging buffer holds its block when the body starts, whether or not it was fetched at this point. -/
theorem before_in_5 (c : Dev nD) (t : Fin cfg1.N) (d) : (dat V c).before 5 t d = blk V c 5 t :=
  ((dat V c).before_in_eq_fetched 5 rfl (fun _ => rfl) (fun _ _ _ => rfl)
    (fun t => by rw [after_5]; unfold Dat.blockOf blk; rw [dat_A]) t d).trans
    (by unfold Dat.fetched Dat.blockOf blk; rw [dat_A]; rfl)
/-- Input window 6's staging buffer holds its block when the body starts, whether or not it was fetched at this point. -/
theorem before_in_6 (c : Dev nD) (t : Fin cfg1.N) (d) : (dat V c).before 6 t d = blk V c 6 t :=
  ((dat V c).before_in_eq_fetched 6 rfl (fun _ => rfl) (fun _ _ _ => rfl)
    (fun t => by rw [after_6]; unfold Dat.blockOf blk; rw [dat_A]) t d).trans
    (by unfold Dat.fetched Dat.blockOf blk; rw [dat_A]; rfl)
/-- Input window 7's staging buffer holds its block when the body starts, whether or not it was fetched at this point. -/
theorem before_in_7 (c : Dev nD) (t : Fin cfg1.N) (d) : (dat V c).before 7 t d = blk V c 7 t :=
  ((dat V c).before_in_eq_fetched 7 rfl (fun _ => rfl) (fun _ _ _ => rfl)
    (fun t => by rw [after_7]; unfold Dat.blockOf blk; rw [dat_A]) t d).trans
    (by unfold Dat.fetched Dat.blockOf blk; rw [dat_A]; rfl)

/-- The output window is stored into at every point. -/
theorem live_out : ∀ t : Fin cfg1.N, cfg1.idle 8 (grid1.coords t) = false :=
  (by decide +kernel : ∀ t : Fin cfg1.N, cfg1.idle 8 (grid1.coords t) = false)

/-- Whether the output's staging buffer holds nothing stored since the region began or since it was last written back:
    at the start, and after the last point. -/
def freshAt : ℕ → Bool
  | 0 => true
  | n + 1 => n == 63
theorem freshAt_step : ∀ t : Fin cfg1.N,
    freshAt (t.val + 1) = ((cfg1.win 8).flush t || (cfg1.idle 8 (cfg1.grid.coords t) && freshAt t.val)) := by decide +kernel

theorem not_fresh (t : Fin cfg1.N) (h : t.val ≠ 0) : cfg1.fresh 8 t.val = false := by
  rw [Pipeline.Cfg.fresh_tab cfg1 8 freshAt rfl freshAt_step t.val (Nat.le_of_lt t.isLt)]
  have hN : t.val < 64 := lt_of_lt_of_eq t.isLt (show cfg1.N = 64 from N_1)
  obtain ⟨n, hn⟩ := t
  cases n with
  | zero => exact absurd rfl h
  | succ n => exact beq_eq_false_iff_ne.mpr (by dsimp only at hN; omega)

/-- After the first point the output's buffer holds what the point before left. -/
theorem before_out (c : Dev nD) (t : Fin cfg1.N) (h : t.val ≠ 0) (d) :
    (dat V c).before 8 t d = acc V c (t.val - 1) (Nat.lt_of_le_of_lt (Nat.sub_le _ _) t.isLt) := by
  rw [Dat.before_out_traj _ 8 rfl (fun _ _ => rfl) (fun t _ hi _ => absurd ((live_out t).symm.trans hi) Bool.false_ne_true) t.val t rfl d,
    if_neg (by rw [not_fresh t h]; exact Bool.false_ne_true)]
  dsimp only [dat]

theorem leaves_0 (c : Dev nD) (t : Fin cfg1.N) :
    (dat V c).leavesExact 0 t = owns (c : Thread nD τ) (st1_0 t) fullShare (blk V c 0 t) := by
  unfold Dat.leavesExact; rw [show cfg1.idle 0 (cfg1.grid.coords t) = false from (rfl : cfg1.idle 0 (grid1.coords t) = false), after_0]
theorem leaves_1 (c : Dev nD) (t : Fin cfg1.N) :
    (dat V c).leavesExact 1 t = owns (c : Thread nD τ) (st1_1 t) fullShare (blk V c 1 t) := by
  unfold Dat.leavesExact; rw [show cfg1.idle 1 (cfg1.grid.coords t) = false from (rfl : cfg1.idle 1 (grid1.coords t) = false), after_1]
theorem leaves_2 (c : Dev nD) (t : Fin cfg1.N) :
    (dat V c).leavesExact 2 t = owns (c : Thread nD τ) (st1_2 t) fullShare (blk V c 2 t) := by
  unfold Dat.leavesExact; rw [show cfg1.idle 2 (cfg1.grid.coords t) = false from (rfl : cfg1.idle 2 (grid1.coords t) = false), after_2]
theorem leaves_3 (c : Dev nD) (t : Fin cfg1.N) :
    (dat V c).leavesExact 3 t = owns (c : Thread nD τ) (st1_3 t) fullShare (blk V c 3 t) := by
  unfold Dat.leavesExact; rw [show cfg1.idle 3 (cfg1.grid.coords t) = false from (rfl : cfg1.idle 3 (grid1.coords t) = false), after_3]
theorem leaves_4 (c : Dev nD) (t : Fin cfg1.N) :
    (dat V c).leavesExact 4 t = owns (c : Thread nD τ) (st1_4 t) fullShare (blk V c 4 t) := by
  unfold Dat.leavesExact; rw [show cfg1.idle 4 (cfg1.grid.coords t) = false from (rfl : cfg1.idle 4 (grid1.coords t) = false), after_4]
theorem leaves_5 (c : Dev nD) (t : Fin cfg1.N) :
    (dat V c).leavesExact 5 t = owns (c : Thread nD τ) (st1_5 t) fullShare (blk V c 5 t) := by
  unfold Dat.leavesExact; rw [show cfg1.idle 5 (cfg1.grid.coords t) = false from (rfl : cfg1.idle 5 (grid1.coords t) = false), after_5]
theorem leaves_6 (c : Dev nD) (t : Fin cfg1.N) :
    (dat V c).leavesExact 6 t = owns (c : Thread nD τ) (st1_6 t) fullShare (blk V c 6 t) := by
  unfold Dat.leavesExact; rw [show cfg1.idle 6 (cfg1.grid.coords t) = false from (rfl : cfg1.idle 6 (grid1.coords t) = false), after_6]
theorem leaves_7 (c : Dev nD) (t : Fin cfg1.N) :
    (dat V c).leavesExact 7 t = owns (c : Thread nD τ) (st1_7 t) fullShare (blk V c 7 t) := by
  unfold Dat.leavesExact; rw [show cfg1.idle 7 (cfg1.grid.coords t) = false from (rfl : cfg1.idle 7 (grid1.coords t) = false), after_7]
theorem leaves_8 (c : Dev nD) (t : Fin cfg1.N) :
    (dat V c).leavesExact 8 t = owns (c : Thread nD τ) (st1_8 t) fullShare (acc V c t.val t.isLt) := by
  unfold Dat.leavesExact; rw [show cfg1.idle 8 (cfg1.grid.coords t) = false from live_out t, after_8]

/-! ## The body obligation -/

/-- What the body is called with at point `t`, window by window. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 1600000 in
/-- The body at any point: the first point stores, every later one adds to what the point before left. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in_0, before_in_1, before_in_2, before_in_3, before_in_4, before_in_5, before_in_6, before_in_7]
  rw [show (dat V c).Φ t.succ = (dat V c).Φ t.castSucc from rfl,
    show (dat V c).owesAt () t.succ = (dat V c).owesAt () t.castSucc from rfl,
    leaves_0, leaves_1, leaves_2, leaves_3, leaves_4, leaves_5, leaves_6, leaves_7, leaves_8]
  by_cases h0 : t.val = 0
  · rw [acc_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_triple_first c Set.univ (grid1.coords t) _ _ _ _ _ _ _ _ _ _ _ _ _ _ _ _ _ _ ((cond_first t).mpr h0) (fun h => absurd h0 ((cond_later t).mp h)) (blk V c 0 t) (blk V c 1 t) (blk V c 2 t) (blk V c 3 t) (blk V c 4 t) (blk V c 5 t) (blk V c 6 t) (blk V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [acc_later V c t h0]
    simp only [before_out V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_triple_later c Set.univ (grid1.coords t) _ _ _ _ _ _ _ _ _ _ _ _ _ _ _ _ _ _ (fun h => h0 ((cond_first t).mp h)) ((cond_later t).mpr h0) (blk V c 0 t) (blk V c 1 t) (blk V c 2 t) (blk V c 3 t) (blk V c 4 t) (blk V c 5 t) (blk V c 6 t) (blk V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem defs_row (t : Fin cfg1.N) :
    defs₀ (F := F) .tc cfg1.body (cfg1.bodyArgs t (cfg1.slots t)) = bodyAt1 t := by
  unfold defs₀; rw [Defs.onTc_tc]

/-- The pipeline's obligation on the body, at every point. -/
theorem body_obligation (c : Dev nD) : BodyObligation (dat (F := F) V c) (defs₀ (F := F)) Variants.none () Set.univ := fun t => by
  rw [bigSep_W1, bigSep_W1, defs_row]
  exact triple_restated (body_at V c t) rfl .rfl fun _ => .rfl

end Cert.KernelIdeal.Moe

end

end
-- ==== Proof.KernelIdeal.Whole.lean ====
/- The whole run of `KernelIdeal`: two host operations, the routing call, the expert call, two host operations. The contents of every
   buffer are followed from the launch to the end, and the run is shown to end there. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp
public import proofs.«01_k».proof.Proof.KernelIdeal.Moe

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers, boundary by boundary -/

/-- The arguments. -/
abbrev args : List (Ref sig .tc) := [main_arg0, main_arg1, main_arg2, main_arg3, main_arg4, main_arg5, main_arg6, main_arg7]
/-- What the leading host operations write. -/
abbrev wrote0 : List (Ref sig .tc) := [main_v0, main_v1]
/-- What the closing host operations write. -/
abbrev wrote2 : List (Ref sig .tc) := [main_v4, main_v5]
theorem fresh0 : (hostOps0 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem writes0 : (hostOps0 : List (HloOp τ sig (Elt F))).Forall fun op => op.writes ⊆ (wrote0.map (Proc.devRef (τ := τ) .tc)).toFinset :=
  StableHlo.forall_writes_sub_of_map rfl
theorem writes2 : (hostOps2 : List (HloOp τ sig (Elt F))).Forall fun op => op.writes ⊆ (wrote2.map (Proc.devRef (τ := τ) .tc)).toFinset :=
  StableHlo.forall_writes_sub_of_map rfl

/-- At launch. -/
abbrev W0 : Dev nD → Valuation τ sig (Elt F) := fun c b => (s₀ m ρ).mem ((c : Dev nD), b)
/-- When the routing call begins. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
theorem W1_keep (c : Dev nD) (b : Ref sig .tc) (h : b ∉ wrote0) : W1 m ρ c (Proc.devRef .tc b) = W0 m ρ c (Proc.devRef .tc b) :=
  StableHlo.after_of_writes_sub hostOps0 _ writes0 h

/-- When pallas_call 0 ends: its arrays at what the pipeline leaves, every other buffer as it was. -/
def W2 (c : Dev nD) : Valuation τ sig (Elt F) :=
  Pipeline.withArrays spec0 c (W1 m ρ c) fun w => (Route.dat (V1 m ρ) c).arrAt w cfg0.N
theorem W2_arr (c : Dev nD) (w : Fin cfg0.W) :
    W2 m ρ c (Proc.devRef .tc (Pipeline.arrRef spec0 w)) = (Route.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output array of it is unchanged: an input array is never written back. -/
theorem W2_keep (c : Dev nD) (b : Ref sig .tc) (h : ∀ w : Fin cfg0.W, Pipeline.arrRef spec0 w = b → (cfg0.win w).isOut = false) :
    W2 m ρ c (Proc.devRef .tc b) = W1 m ρ c (Proc.devRef .tc b) := by
  by_cases hw : ∃ w : Fin cfg0.W, Pipeline.arrRef spec0 w = b
  · obtain ⟨w, rfl⟩ := hw
    rw [W2_arr, (Route.dat (V1 m ρ) c).arrAt_in w (h w rfl) _, Route.dat_A]
  · exact W2_of_ne m ρ c b fun w e => hw ⟨w, e⟩
/-- The same, read at the TensorCore's references. -/
abbrev V2 : (c : Dev nD) → (b : Ref sig .tc) → Buf (Elt F) ((c : Thread nD τ).loc b) := fun c b => W2 m ρ c b

/-- When pallas_call 1 ends: its arrays at what the pipeline leaves, every other buffer as it was. -/
def W3 (c : Dev nD) : Valuation τ sig (Elt F) :=
  Pipeline.withArrays spec1 c (W2 m ρ c) fun w => (Moe.dat (V2 m ρ) c).arrAt w cfg1.N
theorem W3_arr (c : Dev nD) (w : Fin cfg1.W) :
    W3 m ρ c (Proc.devRef .tc (Pipeline.arrRef spec1 w)) = (Moe.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output array of it is unchanged: an input array is never written back. -/
theorem W3_keep (c : Dev nD) (b : Ref sig .tc) (h : ∀ w : Fin cfg1.W, Pipeline.arrRef spec1 w = b → (cfg1.win w).isOut = false) :
    W3 m ρ c (Proc.devRef .tc b) = W2 m ρ c (Proc.devRef .tc b) := by
  by_cases hw : ∃ w : Fin cfg1.W, Pipeline.arrRef spec1 w = b
  · obtain ⟨w, rfl⟩ := hw
    rw [W3_arr, (Moe.dat (V2 m ρ) c).arrAt_in w (h w rfl) _, Moe.dat_A]
  · exact W3_of_ne m ρ c b fun w e => hw ⟨w, e⟩
/-- The same, read at the TensorCore's references. -/
abbrev V3 : (c : Dev nD) → (b : Ref sig .tc) → Buf (Elt F) ((c : Thread nD τ).loc b) := fun c b => W3 m ρ c b

/-- At the end. -/
abbrev W4 : Dev nD → Valuation τ sig (Elt F) := fun c => StableHlo.after hostOps2 (W3 m ρ c)
theorem W4_keep (c : Dev nD) (b : Ref sig .tc) (h : b ∉ wrote2) : W4 m ρ c (Proc.devRef .tc b) = W3 m ρ c (Proc.devRef .tc b) :=
  StableHlo.after_of_writes_sub hostOps2 _ writes2 h

theorem args_hosts : ∀ a ∈ args, a ∉ wrote0 ∧ a ∉ wrote2 := by decide +kernel
theorem args_in0 : ∀ a ∈ args, ∀ w : Fin cfg0.W, Pipeline.arrRef spec0 w = a → (cfg0.win w).isOut = false :=
  ListAll.forall_mem_of_all_decide (by decide +kernel)
theorem args_in1 : ∀ a ∈ args, ∀ w : Fin cfg1.W, Pipeline.arrRef spec1 w = a → (cfg1.win w).isOut = false :=
  ListAll.forall_mem_of_all_decide (by decide +kernel)

/-- Up to the expert call, and to the end, every argument is as launched. -/
theorem W2_arg (c : Dev nD) (a : Ref sig .tc) (ha : a ∈ args) : W2 m ρ c (Proc.devRef .tc a) = m ((c : Thread nD τ).loc a) := by
  rw [W2_keep m ρ c a (args_in0 a ha), W1_keep m ρ c a (args_hosts a ha).1]
theorem W3_arg (c : Dev nD) (a : Ref sig .tc) (ha : a ∈ args) : W3 m ρ c (Proc.devRef .tc a) = m ((c : Thread nD τ).loc a) := by
  rw [W3_keep m ρ c a (args_in1 a ha), W2_arg m ρ c a ha]
theorem W4_arg (c : Dev nD) (a : Ref sig .tc) (ha : a ∈ args) : W4 m ρ c (Proc.devRef .tc a) = m ((c : Thread nD τ).loc a) := by
  rw [W4_keep m ρ c a (args_hosts a ha).2, W3_arg m ρ c a ha]

/-! ## The run -/

/-- No pipeline has a prefetched table. -/
abbrev adm : (p : Fin 2) → (pcfgs (F := F) p).Adm := fun p => (cfgs p).toPCfg_adm
/-- The two pipelines' proof data, each at its entry contents. -/
def pdats : (p : Fin 2) → (c : Dev nD) → Dat τ (Elt F) Unit ℕ (UR sig nD τ) ℕ (Pipeline.pin (pcfgs (F := F)) adm p) c
  | ⟨0, _⟩ => fun c => Route.dat (V1 m ρ) c
  | ⟨1, _⟩ => fun c => Moe.dat (V2 m ρ) c
/-- No core owes another anything. -/
abbrev L : GSem nD τ sig → Finset Unit := fun _ => ∅
abbrev lv : GSem nD τ sig → Unit → ℕ := fun _ _ => 0
/-- What goes along beside the buffers: the generator register, and the core owing nothing. -/
abbrev rest (c : Dev nD) : sProp 𝕄 := iprop((∃ r, prngReg c r) ∗ ∃ O, owes (c : Thread nD τ) (0 : CellTallies nD τ sig Unit) O)
/-- A stretch of host operations over the buffers at contents `W`. -/
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the split and join lemmas are stated over the pinned configuration, which unification reaches by unfolding plain
-- definitions inside a metavariable's type
set_option backward.isDefEq.respectTransparency.types false in
/-- pallas_call 0 between boundary contents `W1` and `W2`: its arrays are split out of the buffers held, and put back
    at what the pipeline leaves; the generator register goes through the pipeline's invariant; nothing is owed. -/
def reg0 : Pipeline.RegionSeg (pcfgs (F := F)) adm (pdats m ρ) () defs₀ Variants.none L lv 0 where
  win := launch0.win.to₀
  block_pos := launch0.block_pos
  stage_whole := launch0.stage_whole
  K := PEmpty
  osem k := k.elim
  ho := Pipeline.OwnSemFacts.none _
  hbody c := (Route.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Route.dat_A (V1 m ρ) c)
    rw [Pipeline.unscopedBufs_held] at hsplit
    iintro ⟨⟨Hb, Hp, HO⟩, -, -⟩
    ihave H := hsplit $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%O, -, HO⟩; iexists O; iexact HO

-- the split and join lemmas are stated over the pinned configuration, which unification reaches by unfolding plain
-- definitions inside a metavariable's type
set_option backward.isDefEq.respectTransparency.types false in
/-- pallas_call 1 between boundary contents `W2` and `W3`: its arrays are split out of the buffers held, and put back
    at what the pipeline leaves; the generator register goes through the pipeline's invariant; nothing is owed. -/
def reg1 : Pipeline.RegionSeg (pcfgs (F := F)) adm (pdats m ρ) () defs₀ Variants.none L lv 1 where
  win := launch1.win.to₀
  block_pos := launch1.block_pos
  stage_whole := launch1.stage_whole
  K := PEmpty
  osem k := k.elim
  ho := Pipeline.OwnSemFacts.none _
  hbody c := (Moe.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ rest c)
  post c := iprop(StableHlo.held (c : Thread nD τ) (Pipeline.ucRefs τ sig) (W3 m ρ c) ∗ rest c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Moe.dat_A (V2 m ρ) c)
    rw [Pipeline.unscopedBufs_held] at hsplit
    iintro ⟨⟨Hb, Hp, HO⟩, -, -⟩
    ihave H := hsplit $$ Hb
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%O, HO⟩; iexists O; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%O, -, HO⟩; iexists O; iexact HO

/-- The program's four stretches in order. -/
abbrev segs : List (Pipeline.Seg (pcfgs (F := F)) adm (pdats m ρ) () defs₀ Variants.none L lv) :=
  [ .host (host hostOps0 hostOps0_sub fresh0 (W0 m ρ)), .region (reg0 m ρ), .region (reg1 m ρ),
    .host (host hostOps2 hostOps2_sub fresh2 (W3 m ρ)) ]
theorem main_segs (c : Dev nD) : main (F := F) c = Pipeline.Seg.run (segs m ρ) := (main_chain c).trans (by chain_rfl)
theorem sems_scoped : ∀ sm : SemLoc sig, sm.isScoped .tc = true := by decide

-- the launch theorem's implicit arguments are found by unfolding plain definitions inside a metavariable's type
set_option backward.isDefEq.respectTransparency.types false in
/-- Every fair execution ends without a fault, with every argument as launched, the result array at the closing contents, and
    every semaphore counter at zero. -/
theorem run : θ_run defs (onTc (τ := τ) (main (F := F))) ⟨m, fun _ => 0, ρ⟩ (fun r => (∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ Variants.none L lv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      dsimp only [Pipeline.Seg.post, host, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c => ⟨h c _ (mem_held main_v5 (by decide)),
       (h c _ (mem_held main_arg0 (by decide))).trans (W4_arg m ρ c main_arg0 (by decide)),
       (h c _ (mem_held main_arg1 (by decide))).trans (W4_arg m ρ c main_arg1 (by decide)),
       (h c _ (mem_held main_arg2 (by decide))).trans (W4_arg m ρ c main_arg2 (by decide)),
       (h c _ (mem_held main_arg3 (by decide))).trans (W4_arg m ρ c main_arg3 (by decide)),
       (h c _ (mem_held main_arg4 (by decide))).trans (W4_arg m ρ c main_arg4 (by decide)),
       (h c _ (mem_held main_arg5 (by decide))).trans (W4_arg m ρ c main_arg5 (by decide)),
       (h c _ (mem_held main_arg6 (by decide))).trans (W4_arg m ρ c main_arg6 (by decide)),
       (h c _ (mem_held main_arg7 (by decide))).trans (W4_arg m ρ c main_arg7 (by decide))⟩),
      funext fun g => hz g (.inr (sems_scoped g.2))⟩)

/-- The run, without the result: the arguments end unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ)

end Cert.KernelIdeal.Whole

end

end
-- ==== Proof.Layer.lean ====
module

public import Idealize.ShloMosaic.PureOps.Ideal

/-! The layer as plain functions on the extended reals: what both programs compute, named by coordinates. -/

@[expose] public section

noncomputable section

namespace Cert.Layer

open Idealize.ShloMosaic

/-- A row of hidden states over the root of its mean square (768 entries, 1e-6 added), times the layer's weight. -/
def hid (x : Fin 2048 → Fin 768 → EReal) (ln : Fin 768 → EReal) (s : Fin 2048) (d : Fin 768) : EReal :=
  x s d * Ideal.rsqrt (Ideal.div (∑ k, x s k * x s k) (Ideal.ofBits .f32 0x44400000#32) + Ideal.ofBits .f32 0x358637BD#32) * ln d

/-- The router's score of expert `e` for row `s`. -/
def score (h : Fin 2048 → Fin 768 → EReal) (w : Fin 768 → Fin 64 → EReal) (s : Fin 2048) (e : Fin 64) : EReal :=
  ∑ d, h s d * w d e

/-- `k` is the first place of `l` that holds its greatest entry. -/
def IsBest (l : Fin 64 → EReal) (k : Fin 64) : Prop := (∀ j, l j ≤ l k) ∧ ∀ j, j < k → l j < l k

theorem exists_best (l : Fin 64 → EReal) : ∃ k, IsBest l k := by
  obtain ⟨m, -, hm⟩ := Finset.exists_max_image Finset.univ l ⟨0, Finset.mem_univ _⟩
  obtain ⟨k, hk, hmin⟩ := Finset.exists_min_image (Finset.univ.filter fun j => l j = l m) id ⟨m, by simp⟩
  have hkm : l k = l m := (Finset.mem_filter.mp hk).2
  refine ⟨k, fun j => hkm ▸ hm j (Finset.mem_univ _), fun j hj => lt_of_le_of_ne (hkm ▸ hm j (Finset.mem_univ _)) fun h => ?_⟩
  exact absurd (hmin j (Finset.mem_filter.mpr ⟨Finset.mem_univ _, h.trans hkm⟩)) (not_le.mpr hj)

/-- The first place of the greatest entry. -/
def best (l : Fin 64 → EReal) : Fin 64 := Classical.choose (exists_best l)

theorem best_spec (l : Fin 64 → EReal) : IsBest l (best l) := Classical.choose_spec (exists_best l)

/-- `l` with its first greatest entry replaced by `-∞`. -/
def rest (l : Fin 64 → EReal) (j : Fin 64) : EReal := if j = best l then ⊥ else l j

/-- The first place of the greatest entry among the others. -/
def second (l : Fin 64 → EReal) : Fin 64 := best (rest l)

/-- The ratio of the second greatest entry's exponential to the greatest's. -/
def ratio (l : Fin 64 → EReal) : EReal := Ideal.exp (rest l (second l) - l (best l))

/-- The weight of expert `e` from the scores `l`: the greatest two share one, the others get none. -/
def weight (l : Fin 64 → EReal) (e : Fin 64) : EReal :=
  (if best l = e then Ideal.div 1 (1 + ratio l) else 0) + (if second l = e then Ideal.div (ratio l) (1 + ratio l) else 0)

/-- The gated activation. -/
def act (g u : EReal) : EReal := g * Ideal.div 1 (1 + Ideal.exp (-g)) * u

/-- What expert `e` makes of row `s`, at column `d`. -/
def expert (h : Fin 2048 → Fin 768 → EReal) (wg wu : Fin 64 → Fin 768 → Fin 128 → EReal) (wd : Fin 64 → Fin 128 → Fin 768 → EReal)
    (e : Fin 64) (s : Fin 2048) (d : Fin 768) : EReal :=
  ∑ f, act (∑ k, h s k * wg e k f) (∑ k, h s k * wu e k f) * wd e f d

/-- The layer: the hidden states plus the weighted sum of what the experts make of the normalised ones. -/
def layer (x : Fin 2048 → Fin 768 → EReal) (ln : Fin 768 → EReal) (w : Fin 768 → Fin 64 → EReal)
    (wg wu : Fin 64 → Fin 768 → Fin 128 → EReal) (wd : Fin 64 → Fin 128 → Fin 768 → EReal) (s : Fin 2048) (d : Fin 768) : EReal :=
  x s d + ∑ e, weight (score (hid x ln) w s) e * expert (hid x ln) wg wu wd e s d

end Cert.Layer

end
-- ==== Proof.TopTwo.lean ====
module

public import proofs.«01_k».proof.Proof.Layer
public import Idealize.ShloMosaic.Lib.SortPrefix
public import Idealize.ShloMosaic.Lib.SortNet.Extract

/-! Selecting the greatest two of 64: by a maximum and the least place that attains it, and by a stable sort. -/

@[expose] public section

noncomputable section

namespace Cert.Layer

open Idealize.ShloMosaic

/-! ## A maximum, then the least place that attains it -/

theorem fold_max (l : Fin 64 → EReal) : (Finset.univ : Finset (Fin 64)).fold max ⊥ l = l (best l) :=
  le_antisymm ((Finset.fold_max_le _).mpr ⟨bot_le, fun j _ => (best_spec l).1 j⟩)
    ((Finset.le_fold_max _).mpr (Or.inr ⟨best l, Finset.mem_univ _, le_refl _⟩))

theorem toInt_place (k : Fin 64) : (BitVec.ofNat 32 k.val).toInt = (k.val : Int) := by
  revert k; decide

theorem place_inj (j k : Fin 64) : BitVec.ofNat 32 j.val = BitVec.ofNat 32 k.val ↔ j = k :=
  ⟨fun h => Fin.ext (by exact_mod_cast (toInt_place j).symm.trans ((congrArg BitVec.toInt h).trans (toInt_place k))), fun h => h ▸ rfl⟩

theorem fold_minsi (l : Fin 64 → EReal) :
    (Finset.univ : Finset (Fin 64)).fold IntOp.minsi 2147483647#32
      (fun j => if l j = l (best l) then BitVec.ofNat 32 j.val else 64#32) = BitVec.ofNat 32 (best l).val := by
  refine BitVec.eq_of_toInt_eq ?_
  rw [← Finset.fold_hom (op' := min) (m := BitVec.toInt) SortNet.toInt_minsi, toInt_place]
  refine le_antisymm ((Finset.fold_min_le _).mpr (Or.inr ⟨best l, Finset.mem_univ _, ?_⟩)) ((Finset.le_fold_min _).mpr ⟨?_, fun j _ => ?_⟩)
  · simp [toInt_place]
  · have := (best l).isLt
    rw [show (2147483647#32 : BitVec 32).toInt = 2147483647 from rfl]; omega
  · have hb := (best l).isLt
    by_cases h : l j = l (best l)
    · simp only [h, if_true, toInt_place]
      by_contra hlt
      exact absurd h (ne_of_lt ((best_spec l).2 j (by
        have : (j.val : Int) < (best l).val := not_le.mp hlt
        exact_mod_cast this)))
    · simp only [h, if_false]
      rw [show (64#32 : BitVec 32).toInt = 64 from rfl]; omega

/-! ## A stable sort by a key alone is the sort by the key and then the place -/

theorem stableSort_congr_of_pairwise {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [← ih h.2]
    exact insertBefore_congr R R' a _ fun b hb => h.1 b ((perm_stableSort R l).mem_iff.mp hb)

theorem sortedFrom_congr_of_lt {n : Nat} (R R' : Fin n → Fin n → Bool) (h : ∀ a b, a < b → R b a = R' b a) :
    sortedFrom R = sortedFrom R' := by
  funext k
  unfold sortedFrom
  rw [List.get_of_eq (show sortPositions n R = sortPositions n R' from
    stableSort_congr_of_pairwise R R' _ ((List.pairwise_lt_finRange n).imp fun hab => h _ _ hab))]
  rfl

/-- The greatest two, first places first, are where a stable descending sort starts. -/
theorem sortedFrom_two (p : Fin 64 → EReal) (B : Fin 64 → Fin 64 → Bool) (hB : ∀ a b, B a b = decide (p b < p a)) (a b : Fin 64)
    (hab : a ≠ b) (ha : IsBest p a) (hb : ∀ j, j ≠ a → p j ≤ p b) (hb' : ∀ j, j ≠ a → j < b → p j < p b) :
    sortedFrom B ⟨0, by omega⟩ = a ∧ sortedFrom B ⟨1, by omega⟩ = b := by
  have e : sortedFrom B = sortedFrom fun k k' : Fin 64 => decide (p k' < p k) || (decide (p k = p k') && decide (k < k')) :=
    sortedFrom_congr_of_lt _ _ fun x y hxy => by rw [hB]; simp [not_lt.mpr hxy.le]
  have hS := StrictTotalBefore.of_key_then_position (fun x y : EReal => decide (y < x)) p (by simp)
    (by simp only [decide_eq_true_eq]; exact fun a b c h h' => lt_trans h' h)
    (by simp only [decide_eq_true_eq]; exact fun a b => (lt_trichotomy b a).imp id (Or.imp Eq.symm id))
  have gen : ∀ j c, p j ≤ p c → (j < c → p j < p c) →
      (decide (p c < p j) || (decide (p j = p c) && decide (j < c))) = false := fun j c h1 h2 => by
    simp only [Bool.or_eq_false_iff, Bool.and_eq_false_iff, decide_eq_false_iff_not, not_lt]
    refine ⟨h1, ?_⟩
    by_cases h : p j = p c
    · exact Or.inr (not_lt.mp fun hlt => absurd h (ne_of_lt (h2 hlt)))
    · exact Or.inl h
  have key := hS.sortedFrom_eq_of_prefix (k := 2) (by omega) ![a, b]
    (by intro i j; fin_cases i <;> fin_cases j <;> simp [hab, hab.symm])
    (by
      intro i j hij
      obtain ⟨rfl, rfl⟩ : i = 0 ∧ j = 1 := by omega
      exact gen b a (ha.1 b) (ha.2 b))
    (by
      intro i j hj
      have hja : j ≠ a := fun h => hj 0 h.symm
      have hjb : j ≠ b := fun h => hj 1 h.symm
      fin_cases i
      · exact gen j a (ha.1 j) (ha.2 j)
      · exact gen j b (hb j hja) (hb' j hja))
  rw [e]
  exact ⟨key 0, key 1⟩

end Cert.Layer

end
-- ==== Proof.KernelIdeal.Read.lean ====
module

public import proofs.«01_k».proof.Proof.KernelIdeal.Moe
public import proofs.«01_k».proof.Proof.TopTwo
public import Idealize.ShloMosaic.Lib.Pointwise

/-! What the two bodies of `KernelIdeal` compute, read at an index over the extended reals. -/

@[expose] public section

set_option maxRecDepth 16384

noncomputable section

namespace Cert.KernelIdeal.Read

open Idealize.ShloMosaic

/-! ## The literals -/

theorem lit_bot : Ideal.ofBits .f32 0xFF800000#32 = ⊥ := by simp [Ideal.ofBits, Ideal.ieee]
theorem lit_zero : Ideal.ofBits .f32 0x00000000#32 = 0 := by simp [Ideal.ofBits, Ideal.ieee]
theorem lit_one : Ideal.ofBits .f32 0x3F800000#32 = 1 := by
  simp [Ideal.ofBits, Ideal.ieee]
  rw [← EReal.coe_mul]; norm_num

/-- A choice by the equality of two words. -/
theorem select_eq {α : Type} (a b : BitVec 32) (u v : α) :
    Scalar.select (IntOp.cmpi CmpIPredicate.eq a b) u v = if a = b then u else v := by
  by_cases h : a = b
  · subst h; simp [Scalar.select, IntOp.cmpi]
  · have h' : (a == b) = false := beq_eq_false_iff_ne.mpr h
    simp [Scalar.select, IntOp.cmpi, h, h']

/-! ## The routing body -/

variable (x : Vec Ideal S2048x768 .f32) (ln : Vec Ideal S1x768 .f32) (w : Vec Ideal S768x64 .f32)

/-- The normalised rows the body computes from its blocks. -/
abbrev hidden (s : Fin 2048) (d : Fin 768) : EReal := Layer.hid (fun s d => x (ix2 s d)) (fun d => ln (ix2 0 d)) s d
/-- The router's scores of row `s`. -/
abbrev scores (s : Fin 2048) (e : Fin 64) : EReal := Layer.score (hidden x ln) (fun d e => w (ix2 d e)) s e

theorem pay5_at (s : Fin 2048) (d : Fin 768) : Gen.k0_pay5 (F := Ideal) x ln (ix2 s d) = hidden x ln s d := by
  unfold hidden Layer.hid
  pointwise [Gen.k0_pay5]

theorem pay6_at (s : Fin 2048) (e : Fin 64) : Gen.k0_pay6 (F := Ideal) x ln w (ix2 s e) = scores x ln w s e := by
  have h := pay5_at x ln
  unfold Gen.k0_pay6 scores Layer.score
  simp only [← h]
  generalize Gen.k0_pay5 (F := Ideal) x ln = y
  pointwise

theorem pay7_at (s : Fin 2048) : Gen.k0_pay7 (F := Ideal) x ln w (ix2 s 0) = scores x ln w s (Layer.best (scores x ln w s)) := by
  rw [← Layer.fold_max (scores x ln w s), ← lit_bot]
  have h := funext (pay6_at x ln w s)
  rw [← h]
  unfold Gen.k0_pay7
  generalize Gen.k0_pay6 (F := Ideal) x ln w = y
  pointwise

theorem pay8_at (s : Fin 2048) : Gen.k0_pay8 (F := Ideal) x ln w (ix2 s 0) = BitVec.ofNat 32 (Layer.best (scores x ln w s)).val := by
  rw [← Layer.fold_minsi, ← pay7_at]
  simp only [← pay6_at]
  unfold Gen.k0_pay8
  generalize Gen.k0_pay6 (F := Ideal) x ln w = y
  generalize Gen.k0_pay7 (F := Ideal) x ln w = z
  pointwise

theorem pay9_at (s : Fin 2048) (e : Fin 64) : Gen.k0_pay9 (F := Ideal) x ln w (ix2 s e) = Layer.rest (scores x ln w s) e := by
  have h8 := pay8_at x ln w s
  have h6 := pay6_at x ln w s e
  revert h8 h6
  unfold Gen.k0_pay9
  generalize Gen.k0_pay6 (F := Ideal) x ln w = y
  generalize Gen.k0_pay8 (F := Ideal) x ln w = z
  intro h8 h6
  pointwise
  rw [h8, h6, lit_bot, select_eq]
  exact if_congr (Layer.place_inj _ _) rfl rfl

theorem pay10_at (s : Fin 2048) :
    Gen.k0_pay10 (F := Ideal) x ln w (ix2 s 0) = Layer.rest (scores x ln w s) (Layer.second (scores x ln w s)) := by
  unfold Layer.second
  rw [← Layer.fold_max (Layer.rest (scores x ln w s)), ← lit_bot]
  have h := funext (pay9_at x ln w s)
  rw [← h]
  unfold Gen.k0_pay10
  generalize Gen.k0_pay9 (F := Ideal) x ln w = y
  pointwise

theorem pay11_at (s : Fin 2048) : Gen.k0_pay11 (F := Ideal) x ln w (ix2 s 0) = BitVec.ofNat 32 (Layer.second (scores x ln w s)).val := by
  unfold Layer.second
  rw [← Layer.fold_minsi]
  change _ = Finset.fold _ _ (fun j => if Layer.rest (scores x ln w s) j = Layer.rest (scores x ln w s) (Layer.second (scores x ln w s)) then _ else _) _
  rw [← pay10_at]
  simp only [← pay9_at]
  unfold Gen.k0_pay11
  generalize Gen.k0_pay9 (F := Ideal) x ln w = y
  generalize Gen.k0_pay10 (F := Ideal) x ln w = z
  pointwise

theorem weights_at (a b : Vec Ideal S2048x1 .f32) (s : Fin 2048) :
    Gen.k0_pay3 (F := Ideal) a b (ix2 s 0) = Ideal.div 1 (1 + Ideal.exp (b (ix2 s 0) - a (ix2 s 0)))
    ∧ Gen.k0_pay4 (F := Ideal) a b (ix2 s 0)
      = Ideal.div (Ideal.exp (b (ix2 s 0) - a (ix2 s 0))) (1 + Ideal.exp (b (ix2 s 0) - a (ix2 s 0))) := by
  rw [← lit_one]
  constructor
  · pointwise [Gen.k0_pay3, Gen.k0_pay2, Gen.k0_pay1]
  · pointwise [Gen.k0_pay4, Gen.k0_pay2, Gen.k0_pay1]

theorem outW1_at (s : Fin 2048) : Route.outW1 x ln w (ix2 s 0) = Ideal.div 1 (1 + Layer.ratio (scores x ln w s)) := by
  unfold Route.outW1 Layer.ratio
  rw [(weights_at _ _ s).1, pay7_at, pay10_at]

theorem outW2_at (s : Fin 2048) :
    Route.outW2 x ln w (ix2 s 0) = Ideal.div (Layer.ratio (scores x ln w s)) (1 + Layer.ratio (scores x ln w s)) := by
  unfold Route.outW2 Layer.ratio
  rw [(weights_at _ _ s).2, pay7_at, pay10_at]

/-! ## The expert body -/

theorem addTo_at (a o : Vec Ideal S2048x768 .f32) (s : Fin 2048) (d : Fin 768) :
    Moe.addTo a o (ix2 s d) = o (ix2 s d) + a (ix2 s d) := by
  pointwise [Moe.addTo, Gen.k1_pay1]

variable (h : Vec Ideal S2048x768 .f32) (i1 i2 : Vec Ideal S2048x1 .i32) (w1 w2 : Vec Ideal S2048x1 .f32)
  (wg wu : Vec Ideal S1x768x128 .f32) (wd : Vec Ideal S1x128x768 .f32)

theorem contrib_at (i : grid1.Coords) (s : Fin 2048) (d : Fin 768) :
    Moe.contrib i h i1 i2 w1 w2 wg wu wd (ix2 s d)
    = ((if i1 (ix2 s 0) = BitVec.ofNat 32 (i 0).val then w1 (ix2 s 0) else 0)
        + (if i2 (ix2 s 0) = BitVec.ofNat 32 (i 0).val then w2 (ix2 s 0) else 0))
      * ∑ f, Layer.act (∑ k, h (ix2 s k) * wg (ix3 0 k f)) (∑ k, h (ix2 s k) * wu (ix3 0 k f)) * wd (ix3 0 f d) := by
  unfold Layer.act
  pointwise [Moe.contrib, Gen.k1_pay2]
  simp only [select_eq, Ideal.logistic]

end Cert.KernelIdeal.Read

end
-- ==== Proof.KernelIdeal.Arrays.lean ====
module

public import proofs.«01_k».proof.Proof.KernelIdeal.Whole
public import proofs.«01_k».proof.Proof.KernelIdeal.Read
public import Idealize.ShloMosaic.Lib.Pipeline.ValueKit
public import Idealize.ShloMosaic.Lib.StableHlo.ReadAt

/-! The arrays of `KernelIdeal` as its calls leave them: each call's blocks as parts of its input arrays, and each output array from
what the body leaves in the window. -/

@[expose] public section

set_option maxRecDepth 16384

noncomputable section

namespace Cert.KernelIdeal.Arrays

open Idealize.ShloMosaic Idealize.ShloMosaic.TcCoe Idealize.ShloMosaic.Tactic
open Cert.KernelIdeal.Gen

variable {F : FTy → Type} [FloatOps F]
variable (V : (c : Dev nD) → (b : Ref sig .tc) → Buf (Elt F) ((c : Thread nD τ).loc b)) (c : Dev nD)

/-! ## The routing call: one point, each block its whole array -/
/-- The only point. -/
def only : Fin cfg0.N := ⟨0, by decide⟩

theorem index0_0 : ∀ t : Fin grid0.N, win0_0.index t = ![0, 0] := by decide +kernel
theorem index0_1 : ∀ t : Fin grid0.N, win0_1.index t = ![0, 0] := by decide +kernel
theorem index0_2 : ∀ t : Fin grid0.N, win0_2.index t = ![0, 0] := by decide +kernel
theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![0, 0] := by decide +kernel
theorem index0_6 : ∀ t : Fin grid0.N, win0_6.index t = ![0, 0] := by decide +kernel
theorem index0_7 : ∀ t : Fin grid0.N, win0_7.index t = ![0, 0] := by decide +kernel
theorem route_blk_0 (t : Fin cfg0.N) : Route.blk V c 0 t = V c main_v0 := by
  funext y; unfold Route.blk; blk_ext [index0_0 t]
theorem route_blk_1 (t : Fin cfg0.N) : Route.blk V c 1 t = V c main_v1 := by
  funext y; unfold Route.blk; blk_ext [index0_1 t]
theorem route_blk_2 (t : Fin cfg0.N) : Route.blk V c 2 t = V c main_arg4 := by
  funext y; unfold Route.blk; blk_ext [index0_2 t]
theorem route_3 : (Route.dat V c).arrAt 3 cfg0.N = Route.outH (V c main_v0) (V c main_v1) := by
  refine (Route.dat V c).arrAt_eq_of_after_last 3 only (by decide +kernel) _ fun j => ?_
  exact congrFun ((Route.after_3 V c only).trans (by rw [route_blk_0, route_blk_1])) j
theorem route_4 : (Route.dat V c).arrAt 4 cfg0.N = Route.outI1 (V c main_v0) (V c main_v1) (V c main_arg4) := by
  refine (Route.dat V c).arrAt_eq_of_after_last 4 only (by decide +kernel) _ fun j => ?_
  exact congrFun ((Route.after_4 V c only).trans (by rw [route_blk_0, route_blk_1, route_blk_2])) j
theorem route_5 : (Route.dat V c).arrAt 5 cfg0.N = Route.outI2 (V c main_v0) (V c main_v1) (V c main_arg4) := by
  refine (Route.dat V c).arrAt_eq_of_after_last 5 only (by decide +kernel) _ fun j => ?_
  exact congrFun ((Route.after_5 V c only).trans (by rw [route_blk_0, route_blk_1, route_blk_2])) j
theorem route_6 : (Route.dat V c).arrAt 6 cfg0.N = Route.outW1 (V c main_v0) (V c main_v1) (V c main_arg4) := by
  refine (Route.dat V c).arrAt_eq_of_after_last 6 only (by decide +kernel) _ fun j => ?_
  exact congrFun ((Route.after_6 V c only).trans (by rw [route_blk_0, route_blk_1, route_blk_2])) j
theorem route_7 : (Route.dat V c).arrAt 7 cfg0.N = Route.outW2 (V c main_v0) (V c main_v1) (V c main_arg4) := by
  refine (Route.dat V c).arrAt_eq_of_after_last 7 only (by decide +kernel) _ fun j => ?_
  exact congrFun ((Route.after_7 V c only).trans (by rw [route_blk_0, route_blk_1, route_blk_2])) j

/-! ## The expert call: the routing's arrays whole at each point, the expert's own weights, and the sum written at the last -/
/-- The last point. -/
def last : Fin cfg1.N := ⟨63, by decide⟩

theorem index1_0 : ∀ t : Fin grid1.N, win1_0.index t = ![0, 0] := by decide +kernel
theorem index1_1 : ∀ t : Fin grid1.N, win1_1.index t = ![0, 0] := by decide +kernel
theorem index1_2 : ∀ t : Fin grid1.N, win1_2.index t = ![0, 0] := by decide +kernel
theorem index1_3 : ∀ t : Fin grid1.N, win1_3.index t = ![0, 0] := by decide +kernel
theorem index1_4 : ∀ t : Fin grid1.N, win1_4.index t = ![0, 0] := by decide +kernel
theorem index1_8 : ∀ t : Fin grid1.N, win1_8.index t = ![0, 0] := by decide +kernel
theorem index1_5 : ∀ t : Fin grid1.N, win1_5.index t = ![t.val, 0, 0] := by decide +kernel
theorem index1_6 : ∀ t : Fin grid1.N, win1_6.index t = ![t.val, 0, 0] := by decide +kernel
theorem index1_7 : ∀ t : Fin grid1.N, win1_7.index t = ![t.val, 0, 0] := by decide +kernel
theorem moe_blk_0 (t : Fin cfg1.N) : Moe.blk V c 0 t = V c main_v2_0 := by
  funext y; unfold Moe.blk; blk_ext [index1_0 t]
theorem moe_blk_1 (t : Fin cfg1.N) : Moe.blk V c 1 t = V c main_v2_1 := by
  funext y; unfold Moe.blk; blk_ext [index1_1 t]
theorem moe_blk_2 (t : Fin cfg1.N) : Moe.blk V c 2 t = V c main_v2_2 := by
  funext y; unfold Moe.blk; blk_ext [index1_2 t]
theorem moe_blk_3 (t : Fin cfg1.N) : Moe.blk V c 3 t = V c main_v2_3 := by
  funext y; unfold Moe.blk; blk_ext [index1_3 t]
theorem moe_blk_4 (t : Fin cfg1.N) : Moe.blk V c 4 t = V c main_v2_4 := by
  funext y; unfold Moe.blk; blk_ext [index1_4 t]
theorem moe_blk_5 (t : Fin cfg1.N) (k : Fin 768) (f : Fin 128) :
    (Moe.blk V c 5 t : Vec F S1x768x128 .f32) (ix3 0 k f) = (V c main_arg5 : Vec F S64x768x128 .f32) (ix3 ⟨t.val, lt_of_lt_of_eq t.isLt N_1⟩ k f) := by
  unfold Moe.blk; blk_ext [index1_5 t]
theorem moe_blk_6 (t : Fin cfg1.N) (k : Fin 768) (f : Fin 128) :
    (Moe.blk V c 6 t : Vec F S1x768x128 .f32) (ix3 0 k f) = (V c main_arg6 : Vec F S64x768x128 .f32) (ix3 ⟨t.val, lt_of_lt_of_eq t.isLt N_1⟩ k f) := by
  unfold Moe.blk; blk_ext [index1_6 t]
theorem moe_blk_7 (t : Fin cfg1.N) (k : Fin 128) (f : Fin 768) :
    (Moe.blk V c 7 t : Vec F S1x128x768 .f32) (ix3 0 k f) = (V c main_arg7 : Vec F S64x128x768 .f32) (ix3 ⟨t.val, lt_of_lt_of_eq t.isLt N_1⟩ k f) := by
  unfold Moe.blk; blk_ext [index1_7 t]

theorem moe_8 : (Moe.dat V c).arrAt 8 cfg1.N = Moe.acc V c 63 last.isLt := by
  refine (Moe.dat V c).arrAt_eq_of_after_last 8 last (by decide +kernel) _ fun j => ?_
  exact congrFun (Moe.after_8 V c last) j

end Cert.KernelIdeal.Arrays

end
-- ==== Proof.KernelIdeal.Value.lean ====
module

public import proofs.«01_k».proof.Proof.KernelIdeal.Arrays

/-! The result of `KernelIdeal`: at each row and column it is the layer of the arguments. -/

@[expose] public section

set_option maxRecDepth 16384

noncomputable section

namespace Cert.KernelIdeal.Value

open Idealize.ShloMosaic Idealize.ShloMosaic.TcCoe Idealize.ShloMosaic.Tactic
open Cert.KernelIdeal.Gen Cert.KernelIdeal.Whole

/-! ## The sum over the experts -/

section
variable (V : (c : Dev nD) → (b : Ref sig .tc) → Buf (Elt Ideal) ((c : Thread nD τ).loc b)) (c : Dev nD)

/-- The running sum after point `n`, at a row and a column. -/
theorem acc_at (s : Fin 2048) (d : Fin 768) : ∀ (n : Nat) (hn : n < cfg1.N),
    Moe.acc V c n hn (ix2 s d) = ∑ k : Fin (n + 1), Moe.part V c ⟨k.val, lt_of_le_of_lt (Nat.le_of_lt_succ k.isLt) hn⟩ (ix2 s d)
  | 0, hn => by
    rw [Fin.sum_univ_one]; rfl
  | n + 1, hn => by
    rw [Fin.sum_univ_castSucc]
    exact (Read.addTo_at _ _ s d).trans (congrArg (· + _) (acc_at s d n (Nat.lt_of_succ_lt hn)))

theorem coords_val : ∀ t : Fin grid1.N, ((grid1.coords t) 0).val = t.val := by decide +kernel

end

/-! ## The buffers between the calls, from the arguments -/

variable (m : (ℓ : Loc nD τ sig) → Buf (Elt Ideal) ℓ) (ρ : Dev nD → PrngReg) (c : Dev nD)
variable (x : Vec Ideal S1x2048x768 .f32) (ln : Vec Ideal S768 .f32) (w : Vec Ideal S768x64 .f32)
  (wg wu : Vec Ideal S64x768x128 .f32) (wd : Vec Ideal S64x128x768 .f32)

theorem rows_at (h0 : m ((c : Thread nD τ).loc main_arg0) = x) (s : Fin 2048) (d : Fin 768) :
    (V1 m ρ c main_v0 : Vec Ideal S2048x768 .f32) (ix2 s d) = x (ix3 0 s d) := by
  subst h0
  after_reads_at

theorem gain_at (h3 : m ((c : Thread nD τ).loc main_arg3) = ln) (d : Fin 768) :
    (V1 m ρ c main_v1 : Vec Ideal S1x768 .f32) (ix2 0 d) = ln (ix1 d) := by
  subst h3
  after_reads_at

/-- What the routing call leaves, in the words of the layer. -/
theorem routed (h0 : m ((c : Thread nD τ).loc main_arg0) = x) (h3 : m ((c : Thread nD τ).loc main_arg3) = ln)
    (h4 : m ((c : Thread nD τ).loc main_arg4) = w) (s : Fin 2048) :
    let h := Layer.hid (fun s d => x (ix3 0 s d)) (fun d => ln (ix1 d))
    let l := Layer.score h (fun d e => w (ix2 d e)) s
    (∀ d, (V2 m ρ c main_v2_0 : Vec Ideal S2048x768 .f32) (ix2 s d) = h s d)
    ∧ (V2 m ρ c main_v2_1 : Vec Ideal S2048x1 .i32) (ix2 s 0) = BitVec.ofNat 32 (Layer.best l).val
    ∧ (V2 m ρ c main_v2_2 : Vec Ideal S2048x1 .i32) (ix2 s 0) = BitVec.ofNat 32 (Layer.second l).val
    ∧ (V2 m ρ c main_v2_3 : Vec Ideal S2048x1 .f32) (ix2 s 0) = Ideal.div 1 (1 + Layer.ratio l)
    ∧ (V2 m ρ c main_v2_4 : Vec Ideal S2048x1 .f32) (ix2 s 0) = Ideal.div (Layer.ratio l) (1 + Layer.ratio l) := by
  intro h l
  have ex : (fun s d => (V1 m ρ c main_v0 : Vec Ideal S2048x768 .f32) (ix2 s d)) = fun s d => x (ix3 0 s d) :=
    funext fun s => funext fun d => rows_at m ρ c x h0 s d
  have el : (fun d => (V1 m ρ c main_v1 : Vec Ideal S1x768 .f32) (ix2 0 d)) = fun d => ln (ix1 d) :=
    funext fun d => gain_at m ρ c ln h3 d
  have ew : V1 m ρ c main_arg4 = w := (W1_keep m ρ c main_arg4 (by decide)).trans h4
  have eh : Read.hidden (V1 m ρ c main_v0) (V1 m ρ c main_v1) = h := by
    show Layer.hid _ _ = _
    rw [ex, el]
  have es : Read.scores (V1 m ρ c main_v0) (V1 m ρ c main_v1) (V1 m ρ c main_arg4) s = l := by
    show Layer.score (Read.hidden _ _) _ s = _
    rw [eh, ew]
  refine ⟨fun d => ?_, ?_, ?_, ?_, ?_⟩
  · exact (congrFun ((W2_arr m ρ c 3).trans (Arrays.route_3 (V1 m ρ) c)) (ix2 s d)).trans
      ((Read.pay5_at _ _ s d).trans (congrFun (congrFun eh s) d))
  · exact (congrFun ((W2_arr m ρ c 4).trans (Arrays.route_4 (V1 m ρ) c)) (ix2 s 0)).trans
      ((Read.pay8_at _ _ _ s).trans (by rw [es]))
  · exact (congrFun ((W2_arr m ρ c 5).trans (Arrays.route_5 (V1 m ρ) c)) (ix2 s 0)).trans
      ((Read.pay11_at _ _ _ s).trans (by rw [es]))
  · exact (congrFun ((W2_arr m ρ c 6).trans (Arrays.route_6 (V1 m ρ) c)) (ix2 s 0)).trans
      ((Read.outW1_at _ _ _ s).trans (by rw [es]))
  · exact (congrFun ((W2_arr m ρ c 7).trans (Arrays.route_7 (V1 m ρ) c)) (ix2 s 0)).trans
      ((Read.outW2_at _ _ _ s).trans (by rw [es]))

/-- What the point of expert `e` contributes. -/
theorem part_at (h0 : m ((c : Thread nD τ).loc main_arg0) = x) (h3 : m ((c : Thread nD τ).loc main_arg3) = ln)
    (h4 : m ((c : Thread nD τ).loc main_arg4) = w) (h5 : m ((c : Thread nD τ).loc main_arg5) = wg)
    (h6 : m ((c : Thread nD τ).loc main_arg6) = wu) (h7 : m ((c : Thread nD τ).loc main_arg7) = wd)
    (t : Fin cfg1.N) (e : Fin 64) (he : t.val = e.val) (s : Fin 2048) (d : Fin 768) :
    let h := Layer.hid (fun s d => x (ix3 0 s d)) (fun d => ln (ix1 d))
    Moe.part (V2 m ρ) c t (ix2 s d)
    = Layer.weight (Layer.score h (fun d e => w (ix2 d e)) s) e
      * Layer.expert h (fun e k f => wg (ix3 e k f)) (fun e k f => wu (ix3 e k f)) (fun e f d => wd (ix3 e f d)) e s d := by
  intro h
  obtain ⟨eh, e1, e2, e3, e4⟩ := routed m ρ c x ln w h0 h3 h4 s
  have et : (⟨t.val, lt_of_lt_of_eq t.isLt N_1⟩ : Fin 64) = e := Fin.ext he
  have e5 : ∀ k f, (Moe.blk (V2 m ρ) c 5 t : Vec Ideal S1x768x128 .f32) (ix3 0 k f) = wg (ix3 e k f) := fun k f => by
    rw [Arrays.moe_blk_5, et, show V2 m ρ c main_arg5 = wg from (W2_arg m ρ c main_arg5 (by decide)).trans h5]
  have e6 : ∀ k f, (Moe.blk (V2 m ρ) c 6 t : Vec Ideal S1x768x128 .f32) (ix3 0 k f) = wu (ix3 e k f) := fun k f => by
    rw [Arrays.moe_blk_6, et, show V2 m ρ c main_arg6 = wu from (W2_arg m ρ c main_arg6 (by decide)).trans h6]
  have e7 : ∀ k f, (Moe.blk (V2 m ρ) c 7 t : Vec Ideal S1x128x768 .f32) (ix3 0 k f) = wd (ix3 e k f) := fun k f => by
    rw [Arrays.moe_blk_7, et, show V2 m ρ c main_arg7 = wd from (W2_arg m ρ c main_arg7 (by decide)).trans h7]
  unfold Moe.part
  rw [Arrays.moe_blk_0, Arrays.moe_blk_1, Arrays.moe_blk_2, Arrays.moe_blk_3, Arrays.moe_blk_4]
  refine (Read.contrib_at _ _ _ _ _ _ _ _ _ s d).trans ?_
  rw [e1, e2, e3, e4, coords_val, he]
  simp only [eh, e5, e6, e7, Layer.place_inj]
  rfl

theorem result_at (h0 : m ((c : Thread nD τ).loc main_arg0) = x) (s : Fin 2048) (d : Fin 768) :
    (W4 m ρ c (Proc.devRef .tc main_v5) : Vec Ideal S1x2048x768 .f32) (ix3 0 s d)
    = x (ix3 0 s d) + (W3 m ρ c (Proc.devRef .tc main_v3) : Vec Ideal S2048x768 .f32) (ix2 s d) := by
  have h := W3_arg m ρ c main_arg0 (by decide)
  rw [h0] at h
  subst h
  after_reads_at

/-- The result at a row and a column is the layer of the arguments. -/
theorem out_at (h0 : m ((c : Thread nD τ).loc main_arg0) = x) (h3 : m ((c : Thread nD τ).loc main_arg3) = ln)
    (h4 : m ((c : Thread nD τ).loc main_arg4) = w) (h5 : m ((c : Thread nD τ).loc main_arg5) = wg)
    (h6 : m ((c : Thread nD τ).loc main_arg6) = wu) (h7 : m ((c : Thread nD τ).loc main_arg7) = wd) (s : Fin 2048) (d : Fin 768) :
    (W4 m ρ c (Proc.devRef .tc main_v5) : Vec Ideal S1x2048x768 .f32) (ix3 0 s d)
    = Layer.layer (fun s d => x (ix3 0 s d)) (fun d => ln (ix1 d)) (fun d e => w (ix2 d e)) (fun e k f => wg (ix3 e k f))
        (fun e k f => wu (ix3 e k f)) (fun e f d => wd (ix3 e f d)) s d := by
  rw [result_at m ρ c x h0]
  refine congrArg (x (ix3 0 s d) + ·) ?_
  refine (congrFun ((W3_arr m ρ c 8).trans (Arrays.moe_8 (V2 m ρ) c)) (ix2 s d)).trans ?_
  refine (acc_at (V2 m ρ) c s d 63 Arrays.last.isLt).trans ?_
  exact Finset.sum_congr rfl fun e _ => part_at m ρ c x ln w wg wu wd h0 h3 h4 h5 h6 h7 _ e rfl s d

end Cert.KernelIdeal.Value

end
-- ==== Proof.Soft.lean ====
module

public import proofs.«01_k».proof.Proof.TopTwo

/-! Real scores: the probabilities, their greatest two, and the two weights; and when the scores are real. -/

@[expose] public section

noncomputable section

namespace Cert.Layer

open Idealize.ShloMosaic

theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

theorem div_real (x y : ℝ) (hy : y ≠ 0) : Ideal.div (x : EReal) (y : EReal) = ((x / y : ℝ) : EReal) := by
  rw [Ideal.div_coe hy, ← EReal.coe_mul, mul_one_div]

/-! ## The probabilities -/

/-- The exponential of a score less the greatest. -/
def expo (l : Fin 64 → EReal) (j : Fin 64) : EReal := Ideal.exp (l j - max ⊥ ((Finset.univ : Finset (Fin 64)).fold max ⊥ l))

/-- The probability of place `j`. -/
def prob (l : Fin 64 → EReal) (j : Fin 64) : EReal := Ideal.div (expo l j) (∑ k, expo l k)

section Real
variable (r : Fin 64 → ℝ)

/-- The scores as extended reals. -/
abbrev up : Fin 64 → EReal := fun j => (r j : EReal)

/-- A real score's exponential less the greatest. -/
def rexp (j : Fin 64) : ℝ := Real.exp (r j - r (best (up r)))

theorem expo_up (j : Fin 64) : expo (up r) j = (rexp r j : EReal) := by
  unfold expo rexp
  rw [fold_max, bot_sup_eq, ← EReal.coe_sub, Ideal.exp_coe]

theorem sum_pos : 0 < ∑ k, rexp r k := Finset.sum_pos (fun _ _ => Real.exp_pos _) ⟨0, Finset.mem_univ _⟩

theorem prob_up (j : Fin 64) : prob (up r) j = ((rexp r j / ∑ k, rexp r k : ℝ) : EReal) := by
  unfold prob
  simp only [expo_up]
  rw [← coe_sum, div_real _ _ (sum_pos r).ne']

theorem prob_lt_iff (j k : Fin 64) : prob (up r) j < prob (up r) k ↔ r j < r k := by
  rw [prob_up, prob_up, EReal.coe_lt_coe_iff, div_lt_div_iff_of_pos_right (sum_pos r)]
  unfold rexp
  rw [Real.exp_lt_exp]
  exact sub_lt_sub_iff_right _

theorem prob_le_iff (j k : Fin 64) : prob (up r) j ≤ prob (up r) k ↔ r j ≤ r k := by
  rw [← not_lt, prob_lt_iff, not_lt]

theorem second_ne_best : second (up r) ≠ best (up r) := by
  intro h
  obtain ⟨j, hj⟩ : ∃ j, j ≠ best (up r) := exists_ne _
  have := (best_spec (rest (up r))).1 j
  rw [show best (rest (up r)) = best (up r) from h] at this
  simp [rest, hj] at this

theorem rest_second : rest (up r) (second (up r)) = r (second (up r)) := if_neg (second_ne_best r)

theorem second_max (j : Fin 64) (hj : j ≠ best (up r)) : r j ≤ r (second (up r)) := by
  have := (best_spec (rest (up r))).1 j
  rw [show best (rest (up r)) = second (up r) from rfl, rest_second, rest, if_neg hj] at this
  exact EReal.coe_le_coe_iff.mp this

theorem second_first (j : Fin 64) (hj : j ≠ best (up r)) (hlt : j < second (up r)) : r j < r (second (up r)) := by
  have := (best_spec (rest (up r))).2 j hlt
  rw [show best (rest (up r)) = second (up r) from rfl, rest_second, rest, if_neg hj] at this
  exact EReal.coe_lt_coe_iff.mp this

/-- A stable descending sort of the probabilities starts at the greatest two scores' places. -/
theorem sorted_prob (B : Fin 64 → Fin 64 → Bool) (hB : ∀ a b, B a b = decide (prob (up r) b < prob (up r) a)) :
    sortedFrom B ⟨0, by omega⟩ = best (up r) ∧ sortedFrom B ⟨1, by omega⟩ = second (up r) :=
  sortedFrom_two (prob (up r)) B hB _ _ (second_ne_best r).symm
    ⟨fun j => (prob_le_iff r _ _).mpr (EReal.coe_le_coe_iff.mp ((best_spec (up r)).1 j)),
      fun j hj => (prob_lt_iff r _ _).mpr (EReal.coe_lt_coe_iff.mp ((best_spec (up r)).2 j hj))⟩
    (fun j hj => (prob_le_iff r _ _).mpr (second_max r j hj)) fun j hj hlt => (prob_lt_iff r _ _).mpr (second_first r j hj hlt)

theorem ratio_up : ratio (up r) = (rexp r (second (up r)) : EReal) := by
  unfold ratio rexp
  rw [rest_second, ← EReal.coe_sub, Ideal.exp_coe]

theorem rexp_best : rexp r (best (up r)) = 1 := by
  unfold rexp
  rw [sub_self, Real.exp_zero]

theorem share (x y z : ℝ) (hx : 0 < x) (hy : 0 < y) (hz : 0 < z) :
    Ideal.div ((x / z : ℝ) : EReal) (((x / z : ℝ) : EReal) + ((y / z : ℝ) : EReal)) = ((x / (x + y) : ℝ) : EReal) := by
  have h : x / z + y / z ≠ 0 := by positivity
  rw [← EReal.coe_add, div_real _ _ h]
  congr 1
  field_simp

/-- The two shares of the two probabilities, each at its place, are the weights. -/
theorem weight_up (e : Fin 64) :
    Ideal.div (prob (up r) (best (up r))) (prob (up r) (best (up r)) + prob (up r) (second (up r))) * (if best (up r) = e then 1 else 0)
      + Ideal.div (prob (up r) (second (up r))) (prob (up r) (best (up r)) + prob (up r) (second (up r))) * (if second (up r) = e then 1 else 0)
      = weight (up r) e := by
  have hs : 0 < rexp r (second (up r)) := Real.exp_pos _
  have hb : 0 < rexp r (best (up r)) := Real.exp_pos _
  have h1 : (1 : ℝ) + rexp r (second (up r)) ≠ 0 := by positivity
  have e1 : Ideal.div (prob (up r) (best (up r))) (prob (up r) (best (up r)) + prob (up r) (second (up r)))
      = Ideal.div 1 (1 + ratio (up r)) := by
    rw [prob_up, prob_up, share _ _ _ hb hs (sum_pos r), ratio_up, rexp_best, ← EReal.coe_one, ← EReal.coe_add, div_real _ _ h1]
  have e2 : Ideal.div (prob (up r) (second (up r))) (prob (up r) (best (up r)) + prob (up r) (second (up r)))
      = Ideal.div (ratio (up r)) (1 + ratio (up r)) := by
    rw [add_comm (prob (up r) (best (up r))), prob_up, prob_up, share _ _ _ hs hb (sum_pos r), ratio_up, rexp_best,
      ← EReal.coe_one, ← EReal.coe_add, div_real _ _ h1, add_comm (rexp r _) 1]
  rw [e1, e2, mul_ite, mul_one, mul_zero, mul_ite, mul_one, mul_zero]
  rfl

end Real

/-! ## Real scores from a real weight and a real router matrix, whatever the hidden states -/

/-- Neither infinity. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem isReal_of_ne {x : EReal} (h : x ≠ ⊤) (h' : x ≠ ⊥) : IsReal x := ⟨x.toReal, (EReal.coe_toReal h h').symm⟩

theorem isReal_of_abs_lt {x : EReal} (h : max x (-x) < ⊤) : IsReal x :=
  isReal_of_ne (fun e => by simp [e] at h) fun e => by simp [e] at h

theorem size_lit : Ideal.ofBits .f32 0x44400000#32 = ((768 : ℝ) : EReal) := by
  simp [Ideal.ofBits, Ideal.ieee]; rw [← EReal.coe_mul]; norm_num

theorem eps_lit : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem hid_real (x : Fin 2048 → Fin 768 → EReal) (ln : Fin 768 → EReal) (hln : ∀ d, IsReal (ln d)) (s : Fin 2048) (d : Fin 768) :
    IsReal (hid x ln s d) := by
  obtain ⟨e, he, hlit⟩ := eps_lit
  unfold hid
  rw [size_lit, hlit]
  by_cases hx : ∀ k, IsReal (x s k)
  · choose g hg using hx
    have hsum : ∑ k, x s k * x s k = ((∑ k, g k * g k : ℝ) : EReal) := by
      rw [coe_sum]; exact Finset.sum_congr rfl fun k _ => by rw [hg, EReal.coe_mul]
    have hpos : 0 < (∑ k, g k * g k) / 768 + e := add_pos_of_nonneg_of_pos (div_nonneg (Finset.sum_nonneg fun k _ => mul_self_nonneg _) (by norm_num)) he
    rw [hsum, div_real _ _ (by norm_num), ← EReal.coe_add, Ideal.rsqrt_coe, if_neg hpos.not_gt, if_neg hpos.ne']
    exact (IsReal.mul ⟨_, hg d⟩ ⟨_, rfl⟩).mul (hln d)
  · obtain ⟨k, hk⟩ := not_forall.mp hx
    have hinf : x s k * x s k = ⊤ := by
      by_cases h : x s k = ⊤
      · rw [h]; rfl
      · have h' : x s k = ⊥ := by_contra fun h' => hk (isReal_of_ne h h')
        rw [h']; rfl
    have hnn : ∀ y : EReal, 0 ≤ y * y := fun y => by
      rcases le_total 0 y with h | h
      · exact mul_nonneg h h
      · rw [← neg_mul_neg]; exact mul_nonneg (EReal.neg_nonneg.mpr h) (EReal.neg_nonneg.mpr h)
    have hsum : ∑ k, x s k * x s k = ⊤ :=
      top_le_iff.mp (hinf ▸ Finset.single_le_sum (f := fun k => x s k * x s k) (fun k _ => hnn _) (Finset.mem_univ k))
    rw [hsum, Ideal.div_coe (by norm_num), EReal.top_mul_coe_of_pos (by norm_num), EReal.top_add_coe, Ideal.rsqrt_top, mul_zero, zero_mul]
    exact ⟨0, rfl⟩

theorem score_real (x : Fin 2048 → Fin 768 → EReal) (ln : Fin 768 → EReal) (w : Fin 768 → Fin 64 → EReal) (hln : ∀ d, IsReal (ln d))
    (hw : ∀ d e, IsReal (w d e)) (s : Fin 2048) (e : Fin 64) : IsReal (score (hid x ln) w s e) :=
  IsReal.sum _ fun d => (hid_real x ln hln s d).mul (hw d e)

end Cert.Layer

end
-- ==== Proof.Reference.Read.lean ====
module

public import proofs.«01_k».proof.Proof.Gen.ReferenceIdeal.Run
public import proofs.«01_k».proof.Proof.Soft
public import Idealize.ShloMosaic.Lib.Pointwise

/-! The reference's result, cut into the stages of the layer, each stage read at an index. -/

@[expose] public section

set_option maxRecDepth 16384

noncomputable section

namespace Cert.ReferenceIdeal.Read

open Cert.ReferenceIdeal Cert.ReferenceIdeal.Gen Idealize.ShloMosaic Idealize.ShloMosaic.TcCoe

/-- The hidden states, each row scaled by the root of its mean square and by the layer's weight. -/
def hid (x : Vec Ideal S1x2048x768 .f32) (ln : Vec Ideal S768 .f32) : FVec Ideal S2048x768 .f32 :=
  shapeCast _ (mulf (mulf x (broadcastInDim S1x2048x768 ![0, 1, 2] bcast_S1x2048x1_S1x2048x768_0_1_2 (Host.rsqrt (addf (Host.divf (broadcastInDim S1x2048x1 ![0, 1] bcast_S1x2048_S1x2048x1_0_1 (Host.reduceAdd (mulf x x) (constant S_ .f32 0x00000000#32) reducesTo_S1x2048x768_S1x2048_d2 h_S_)) (broadcastInDim S1x2048x1 ![] bcast_S_S1x2048x1 (constant S_ .f32 0x44400000#32))) (broadcastInDim S1x2048x1 ![] bcast_S_S1x2048x1 (constant S_ .f32 0x358637BD#32)))))) (broadcastInDim S1x2048x768 ![0, 1, 2] bcast_S1x1x768_S1x2048x768_0_1_2 (broadcastInDim S1x1x768 ![2] bcast_S768_S1x1x768_2 ln))) shapeCasts_S1x2048x768_S2048x768

/-- The router's scores. -/
def score (h : FVec Ideal S2048x768 .f32) (w : Vec Ideal S768x64 .f32) : FVec Ideal S2048x64 .f32 :=
  Host.dotGeneral (φ₁ := .f32) (φ₂ := .f32) dot_S2048x768_S768x64_S2048x64_1_0_0_1_n_n none h w

/-- The exponentials of the scores less their row's greatest. -/
def expo (l : FVec Ideal S2048x64 .f32) : FVec Ideal S2048x64 .f32 :=
  Host.exp (subf l (broadcastInDim S2048x64 ![0, 1] bcast_S2048x1_S2048x64_0_1 (broadcastInDim S2048x1 ![0] bcast_S2048_S2048x1_0 (maximumf (broadcastInDim S2048 ![] bcast_S_S2048 (constant S_ .f32 0xFF800000#32)) (Host.reduce FloatOps.maximumf l (constant S_ .f32 0xFF800000#32) reducesTo_S2048x64_S2048_d1 h_S_)))))

/-- The probabilities. -/
def prob (l : FVec Ideal S2048x64 .f32) : FVec Ideal S2048x64 .f32 :=
  Host.divf (expo l) (broadcastInDim S2048x64 ![0, 1] bcast_S2048x1_S2048x64_0_1 (broadcastInDim S2048x1 ![0] bcast_S2048_S2048x1_0 (Host.reduceAdd (expo l) (constant S_ .f32 0x00000000#32) reducesTo_S2048x64_S2048_d1 h_S_)))

/-- The two greatest probabilities of each row and their experts. -/
def top (p : FVec Ideal S2048x64 .f32) : FVec Ideal S2048x2 .f32 × IVec S2048x2 32 :=
  Host.topK S2048x2 1 (FloatOps.cmpfTotal .gt) p sliceFits_S2048x64_S2048x2

/-- The weight of every expert for every row: the two weights, each at its expert. -/
def mix (v : FVec Ideal S2048x2 .f32) (i : IVec S2048x2 32) : FVec Ideal S2048x64 .f32 :=
  Host.dotGeneral (φ₁ := .f32) (φ₂ := .f32) dot_S2048x2_S2048x2x64_S2048x64_1_1_n_2_0_0 none (Host.divf v (broadcastInDim S2048x2 ![0, 1] bcast_S2048x1_S2048x2_0_1 (broadcastInDim S2048x1 ![0] bcast_S2048_S2048x1_0 (Host.reduceAdd v (constant S_ .f32 0x00000000#32) reducesTo_S2048x2_S2048_d1 h_S_)))) (uitofp .f32 (cmpi .eq (broadcastInDim S2048x2x64 ![0, 1, 2] bcast_S2048x2x1_S2048x2x64_0_1_2 (broadcastInDim S2048x2x1 ![0, 1] bcast_S2048x2_S2048x2x1_0_1 i)) (broadcastInDim S2048x2x64 ![0, 1, 2] bcast_S1x1x64_S2048x2x64_0_1_2 (iotaInDim S1x1x64 32 2))))

/-- A projection of every row by every expert's matrix. -/
def proj (w : Vec Ideal S64x768x128 .f32) (h : FVec Ideal S2048x768 .f32) : FVec Ideal S64x2048x128 .f32 :=
  transpose S64x2048x128 [0, 2, 1] (Host.dotGeneral (φ₁ := .f32) (φ₂ := .f32) dot_S64x768x128_S2048x768_S64x128x2048_1_1_02_0_n_n none w h) transposes_S64x128x2048_S64x2048x128_0_2_1

/-- The gated activation. -/
def act (g u : FVec Ideal S64x2048x128 .f32) : FVec Ideal S64x2048x128 .f32 :=
  mulf (mulf g (Host.divf (broadcastInDim S64x2048x128 ![] bcast_S_S64x2048x128 (constant S_ .f32 0x3F800000#32)) (addf (broadcastInDim S64x2048x128 ![] bcast_S_S64x2048x128 (constant S_ .f32 0x3F800000#32)) (Host.exp (Host.negf g))))) u

/-- The result from the experts' weights and the activations. -/
def fin (x : Vec Ideal S1x2048x768 .f32) (cw : FVec Ideal S2048x64 .f32) (a : FVec Ideal S64x2048x128 .f32) (wd : Vec Ideal S64x128x768 .f32) : FVec Ideal S1x2048x768 .f32 :=
  addf x (shapeCast _ (Host.dotGeneral (φ₁ := .f32) (φ₂ := .f32) dot_S2048x64_S64x2048x768_S2048x768_1_0_n_2_0_1 none cw (Host.dotGeneral (φ₁ := .f32) (φ₂ := .f32) dot_S64x2048x128_S64x128x768_S64x2048x768_2_1_1_2_0_0 none a wd)) shapeCasts_S2048x768_S1x2048x768)

theorem res_eq (m : (ℓ : Loc nD τ sig) → Buf (Elt Ideal) ℓ) (c : Dev nD) :
    Value.res_out0 m c =
      fin (m ((c.tc : Thread nD τ).loc main_arg0))
        (mix (top (prob (score (hid (m ((c.tc : Thread nD τ).loc main_arg0)) (m ((c.tc : Thread nD τ).loc main_arg3))) (m ((c.tc : Thread nD τ).loc main_arg4))))).1
          (top (prob (score (hid (m ((c.tc : Thread nD τ).loc main_arg0)) (m ((c.tc : Thread nD τ).loc main_arg3))) (m ((c.tc : Thread nD τ).loc main_arg4))))).2)
        (act (proj (m ((c.tc : Thread nD τ).loc main_arg5)) (hid (m ((c.tc : Thread nD τ).loc main_arg0)) (m ((c.tc : Thread nD τ).loc main_arg3))))
          (proj (m ((c.tc : Thread nD τ).loc main_arg6)) (hid (m ((c.tc : Thread nD τ).loc main_arg0)) (m ((c.tc : Thread nD τ).loc main_arg3)))))
        (m ((c.tc : Thread nD τ).loc main_arg7)) := rfl

theorem ninf_lit : Ideal.ofBits .f32 0xFF800000#32 = ⊥ := by
  simp [Ideal.ofBits, Ideal.ieee]

theorem hid_at (x : Vec Ideal S1x2048x768 .f32) (ln : Vec Ideal S768 .f32) (s : Fin 2048) (d : Fin 768) :
    hid x ln (ix2 s d) = Layer.hid (fun s d => x (ix3 0 s d)) (fun d => ln (ix1 d)) s d := by
  pointwise [hid]
  rfl

theorem score_at (h : FVec Ideal S2048x768 .f32) (w : Vec Ideal S768x64 .f32) (s : Fin 2048) (e : Fin 64) :
    score h w (ix2 s e) = Layer.score (fun s d => h (ix2 s d)) (fun d e => w (ix2 d e)) s e := by
  pointwise [score]
  rfl

theorem expo_at (l : FVec Ideal S2048x64 .f32) (s : Fin 2048) (e : Fin 64) :
    expo l (ix2 s e) = Layer.expo (fun e => l (ix2 s e)) e := by
  pointwise [expo]
  rw [ninf_lit]
  rfl

theorem prob_at (l : FVec Ideal S2048x64 .f32) (s : Fin 2048) (e : Fin 64) :
    prob l (ix2 s e) = Layer.prob (fun e => l (ix2 s e)) e := by
  unfold prob Layer.prob
  simp only [← expo_at]
  generalize expo l = e
  pointwise

/-- The order in which the stable sort compares two places of row `s`. -/
def before (p : FVec Ideal S2048x64 .f32) (s : Fin 2048) (k k' : Fin 64) : Bool :=
  FloatOps.cmpfTotal (F := Ideal) (φ := .f32) .gt (p (ix2 s k)) (p (ix2 s k')) == 1#1

theorem before_eq (p : FVec Ideal S2048x64 .f32) (s : Fin 2048) (k k' : Fin 64) :
    before p s k k' = decide (p (ix2 s k') < p (ix2 s k)) := by
  show (BitVec.ofBool (decide (p (ix2 s k') < p (ix2 s k))) == 1#1) = _
  cases decide (p (ix2 s k') < p (ix2 s k)) <;> rfl

theorem along_eq (s : Fin 2048) (j k : Fin 64) : (ix2 s j : S2048x64.Idx).along 1 k = ix2 s k := by
  funext a
  fin_cases a <;> rfl

theorem top_val (p : FVec Ideal S2048x64 .f32) (s : Fin 2048) (i : Fin 2) :
    (top p).1 (ix2 s i) = p (ix2 s (sortedFrom (before p s) ⟨i.val, by omega⟩)) := by
  pointwise [top, Host.topK, Host.sort2]
  simp only [along_eq]
  rfl

theorem top_idx (p : FVec Ideal S2048x64 .f32) (s : Fin 2048) (i : Fin 2) :
    (top p).2 (ix2 s i) = BitVec.ofNat 32 (sortedFrom (before p s) ⟨i.val, by omega⟩).val := by
  pointwise [top, Host.topK, Host.sort2]
  simp only [along_eq]
  rfl

theorem one_hot (j k : Fin 64) :
    (FloatOps.uitofp (F := Ideal) .f32 (IntOp.cmpi .eq (BitVec.ofNat 32 j.val) (BitVec.ofNat 32 k.val)) : EReal) = if j = k then 1 else 0 := by
  show (((BitVec.ofBool (BitVec.ofNat 32 j.val == BitVec.ofNat 32 k.val)).toNat : ℝ) : EReal) = _
  by_cases h : j = k
  · simp [h]
  · have hne : (BitVec.ofNat 32 j.val == BitVec.ofNat 32 k.val) = false := beq_eq_false_iff_ne.mpr fun e => h ((Layer.place_inj j k).mp e)
    rw [hne, if_neg h]
    simp

theorem mix_at (l : FVec Ideal S2048x64 .f32) (s : Fin 2048) (e : Fin 64) (hl : ∀ e, Layer.IsReal (l (ix2 s e))) :
    mix (top (prob l)).1 (top (prob l)).2 (ix2 s e) = Layer.weight (fun e => l (ix2 s e)) e := by
  have at0 := top_val (prob l) s 0
  have at1 := top_val (prob l) s 1
  have id0 := top_idx (prob l) s 0
  have id1 := top_idx (prob l) s 1
  choose r hr using hl
  have hup : (fun e => l (ix2 s e)) = Layer.up r := funext hr
  obtain ⟨h0, h1⟩ := Layer.sorted_prob r (before (prob l) s) fun a b => by rw [before_eq, prob_at, prob_at, hup]
  rw [show (⟨(0 : Fin 2).val, by omega⟩ : Fin 64) = ⟨0, by omega⟩ from rfl, h0] at at0 id0
  rw [show (⟨(1 : Fin 2).val, by omega⟩ : Fin 64) = ⟨1, by omega⟩ from rfl, h1] at at1 id1
  rw [prob_at, hup] at at0 at1
  rw [hup, ← Layer.weight_up]
  generalize (top (prob l)).1 = v at *
  generalize (top (prob l)).2 = i at *
  pointwise [mix]
  rw [Fin.sum_univ_two, Fin.sum_univ_two, at0, at1, id0, id1, one_hot, one_hot]

theorem proj_at (w : Vec Ideal S64x768x128 .f32) (h : FVec Ideal S2048x768 .f32) (s : Fin 2048) (e : Fin 64) (f : Fin 128) :
    proj w h (ix3 e s f) = ∑ k, h (ix2 s k) * w (ix3 e k f) := by
  pointwise [proj]
  exact Finset.sum_congr rfl fun k _ => mul_comm _ _

theorem act_at (g u : FVec Ideal S64x2048x128 .f32) (s : Fin 2048) (e : Fin 64) (f : Fin 128) :
    act g u (ix3 e s f) = Layer.act (g (ix3 e s f)) (u (ix3 e s f)) := by
  pointwise [act]
  rfl

theorem fin_at (x : Vec Ideal S1x2048x768 .f32) (cw : FVec Ideal S2048x64 .f32) (a : FVec Ideal S64x2048x128 .f32)
    (wd : Vec Ideal S64x128x768 .f32) (s : Fin 2048) (d : Fin 768) :
    fin x cw a wd (ix3 0 s d) = x (ix3 0 s d) + ∑ e, cw (ix2 s e) * ∑ f, a (ix3 e s f) * wd (ix3 e f d) := by
  pointwise [fin]

/-- The reference's result is the layer, where the layer's weight and the router's matrix are real. -/
theorem res_at (m : (ℓ : Loc nD τ sig) → Buf (Elt Ideal) ℓ) (c : Dev nD)
    (x : Vec Ideal S1x2048x768 .f32) (ln : Vec Ideal S768 .f32) (w : Vec Ideal S768x64 .f32) (wg wu : Vec Ideal S64x768x128 .f32) (wd : Vec Ideal S64x128x768 .f32)
    (h0 : m ((c.tc : Thread nD τ).loc main_arg0) = x) (h3 : m ((c.tc : Thread nD τ).loc main_arg3) = ln)
    (h4 : m ((c.tc : Thread nD τ).loc main_arg4) = w) (h5 : m ((c.tc : Thread nD τ).loc main_arg5) = wg)
    (h6 : m ((c.tc : Thread nD τ).loc main_arg6) = wu) (h7 : m ((c.tc : Thread nD τ).loc main_arg7) = wd)
    (hln : ∀ d, Layer.IsReal (ln (ix1 d))) (hw : ∀ d e, Layer.IsReal (w (ix2 d e))) (s : Fin 2048) (d : Fin 768) :
    (Value.res_out0 m c : Vec Ideal S1x2048x768 .f32) (ix3 0 s d)
      = Layer.layer (fun s d => x (ix3 0 s d)) (fun d => ln (ix1 d)) (fun d e => w (ix2 d e)) (fun e k f => wg (ix3 e k f))
          (fun e k f => wu (ix3 e k f)) (fun e f d => wd (ix3 e f d)) s d := by
  rw [res_eq, h0, h3, h4, h5, h6, h7, fin_at]
  have hsc : ∀ e, score (hid x ln) w (ix2 s e) = Layer.score (Layer.hid (fun s d => x (ix3 0 s d)) (fun d => ln (ix1 d))) (fun d e => w (ix2 d e)) s e :=
    fun e => by rw [score_at]; simp only [hid_at]
  have hreal : ∀ e, Layer.IsReal (score (hid x ln) w (ix2 s e)) := fun e => by
    rw [hsc]; exact Layer.score_real _ _ _ hln hw s e
  refine congrArg (x (ix3 0 s d) + ·) (Finset.sum_congr rfl fun e _ => ?_)
  rw [mix_at _ _ _ hreal]
  simp only [hsc, act_at, proj_at, hid_at]
  rfl

end Cert.ReferenceIdeal.Read

end
-- ==== Proof.Finite.lean ====
module

public import proofs.«01_k».proof.Pre_router_finite
public import proofs.«01_k».proof.Proof.Gen.Pre_router_finite
public import proofs.«01_k».proof.Proof.Soft
public import Idealize.ShloMosaic.Lib.ReduceAll
public import Idealize.ShloMosaic.Lib.Pointwise

/-! What the precondition says: no entry of the layer's weight or of the router's matrix is infinite. -/

@[expose] public section

set_option maxRecDepth 16384

noncomputable section

namespace Cert.Finite

open Idealize.ShloMosaic Cert.Pre_router_finite

/-- One entry's test: an entry whose absolute value is below infinity is a real number. -/
theorem real_of_test (v : EReal)
    (h : BitVec.ofBool (decide (FloatOps.absf (F := Ideal) (φ := .f32) v < Ideal.ofBits .f32 0x7F800000#32)) = 1#1) : Layer.IsReal v := by
  have ht : Ideal.ofBits .f32 0x7F800000#32 = ⊤ := by simp [Ideal.ofBits, Ideal.ieee]
  rw [ht] at h
  refine Layer.isReal_of_abs_lt (of_decide_eq_true ?_)
  exact (by decide : ∀ b : Bool, BitVec.ofBool b = 1#1 → b = true) _ h

/-- Under the precondition every entry of the two arrays is a real number. -/
theorem real_of_pre (a0 : Vec Ideal S1x2048x768 .f32) (a1 : Vec Ideal S1x2048 .f32) (a2 : Vec Ideal S1x2048 .i32) (ln : Vec Ideal S768 .f32)
    (w : Vec Ideal S768x64 .f32) (a5 a6 : Vec Ideal S64x768x128 .f32) (a7 : Vec Ideal S64x128x768 .f32)
    (h : Cert.Pre_router_finite.fn (F := Ideal) a0 a1 a2 ln w a5 a6 a7 = fun _ => 1#1) :
    (∀ d, Layer.IsReal (ln (ix1 d))) ∧ ∀ d e, Layer.IsReal (w (ix2 d e)) := by
  haveI : Subsingleton S_.Idx := ⟨fun a b => funext fun k => k.elim0⟩
  obtain ⟨h1, h2⟩ := IntOp.andi_eq_one.1 (congrFun h fun k => k.elim0)
  refine ⟨fun d => ?_, fun d e => ?_⟩
  · have := Host.reduce_andi_all _ _ _ _ _ h1 (ix1 d)
    revert this
    pointwise
    exact real_of_test _
  · have := Host.reduce_andi_all _ _ _ _ _ h2 (ix2 d e)
    revert this
    pointwise
    exact real_of_test _

end Cert.Finite

end
-- ==== Proof.Same.lean ====
module

public import proofs.«01_k».proof.Defs
public import proofs.«01_k».proof.Proof.KernelIdeal.Value
public import proofs.«01_k».proof.Proof.Reference.Read
public import proofs.«01_k».proof.Proof.Finite

/-! The kernel's result and the reference's are the same array, from memories that agree on the arguments and satisfy the
precondition. -/

@[expose] public section

set_option maxRecDepth 16384

noncomputable section

namespace Cert.Same

open Idealize.ShloMosaic

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem result_eq (x : Vec Ideal Cert.KernelIdeal.S1x2048x768 .f32) (ln : Vec Ideal Cert.KernelIdeal.S768 .f32)
    (w : Vec Ideal Cert.KernelIdeal.S768x64 .f32) (wg wu : Vec Ideal Cert.KernelIdeal.S64x768x128 .f32)
    (wd : Vec Ideal Cert.KernelIdeal.S64x128x768 .f32)
    (h0 : m ((c.tc : Thread Cert.KernelIdeal.nD Cert.KernelIdeal.τ).loc Cert.KernelIdeal.main_arg0) = x)
    (h3 : m ((c.tc : Thread Cert.KernelIdeal.nD Cert.KernelIdeal.τ).loc Cert.KernelIdeal.main_arg3) = ln)
    (h4 : m ((c.tc : Thread Cert.KernelIdeal.nD Cert.KernelIdeal.τ).loc Cert.KernelIdeal.main_arg4) = w)
    (h5 : m ((c.tc : Thread Cert.KernelIdeal.nD Cert.KernelIdeal.τ).loc Cert.KernelIdeal.main_arg5) = wg)
    (h6 : m ((c.tc : Thread Cert.KernelIdeal.nD Cert.KernelIdeal.τ).loc Cert.KernelIdeal.main_arg6) = wu)
    (h7 : m ((c.tc : Thread Cert.KernelIdeal.nD Cert.KernelIdeal.τ).loc Cert.KernelIdeal.main_arg7) = wd)
    (r0 : m' ((c.tc : Thread Cert.ReferenceIdeal.nD Cert.ReferenceIdeal.τ).loc Cert.ReferenceIdeal.main_arg0) = x)
    (r3 : m' ((c.tc : Thread Cert.ReferenceIdeal.nD Cert.ReferenceIdeal.τ).loc Cert.ReferenceIdeal.main_arg3) = ln)
    (r4 : m' ((c.tc : Thread Cert.ReferenceIdeal.nD Cert.ReferenceIdeal.τ).loc Cert.ReferenceIdeal.main_arg4) = w)
    (r5 : m' ((c.tc : Thread Cert.ReferenceIdeal.nD Cert.ReferenceIdeal.τ).loc Cert.ReferenceIdeal.main_arg5) = wg)
    (r6 : m' ((c.tc : Thread Cert.ReferenceIdeal.nD Cert.ReferenceIdeal.τ).loc Cert.ReferenceIdeal.main_arg6) = wu)
    (r7 : m' ((c.tc : Thread Cert.ReferenceIdeal.nD Cert.ReferenceIdeal.τ).loc Cert.ReferenceIdeal.main_arg7) = wd)
    (hln : ∀ d, Layer.IsReal (ln (ix1 d))) (hw : ∀ d e, Layer.IsReal (w (ix2 d e))) :
    (Cert.ReferenceIdeal.Value.res_out0 m' c : Vec Ideal Cert.KernelIdeal.S1x2048x768 .f32)
      = (Cert.KernelIdeal.Whole.W4 m ρ c (Proc.devRef .tc Cert.KernelIdeal.main_v5) : Vec Ideal Cert.KernelIdeal.S1x2048x768 .f32) := by
  funext j
  obtain ⟨a, s, d, rfl⟩ : ∃ (a : Fin 1) (s : Fin 2048) (d : Fin 768), j = ix3 a s d := ⟨j 0, j 1, j 2, eq_ix3 j⟩
  obtain rfl : a = 0 := Subsingleton.elim _ _
  exact (Cert.ReferenceIdeal.Read.res_at m' c x ln w wg wu wd r0 r3 r4 r5 r6 r7 hln hw _ _).trans
    (Cert.KernelIdeal.Value.out_at m ρ c x ln w wg wu wd h0 h3 h4 h5 h6 h7 _ _).symm

/-- The two runs end with the same result, each with its arguments as they were. -/
theorem algebraic : Cert.algebraic_KernelIdeal_ReferenceIdeal_pre_router_finite
    (hKernelIdeal := Cert.KernelIdeal.Gen.facts) (hReferenceIdeal := Cert.ReferenceIdeal.Gen.facts)
    (hPre_router_finite := Cert.Pre_router_finite.Gen.facts) := by
  intro m g m' g' hpre hag
  refine ⟨fun c => Cert.KernelIdeal.Whole.W4 m g c (Proc.devRef .tc Cert.KernelIdeal.main_v5),
    (θ_run Cert.KernelIdeal.defs _ _).mono (fun _ h => h.1) (Cert.KernelIdeal.Whole.run m g),
    (θ_run Cert.ReferenceIdeal.defs _ _).mono (fun _ h c => ⟨(h c).1.trans ?_, (h c).2⟩) (Cert.ReferenceIdeal.Value.run m' g')⟩
  obtain ⟨r0, -, -, r3, r4, r5, r6, r7⟩ := hag c
  obtain ⟨hln, hw⟩ := Finite.real_of_pre _ _ _ _ _ _ _ _ (hpre c)
  exact result_eq m g m' c _ _ _ _ _ _ rfl rfl rfl rfl rfl rfl r0 r3 r4 r5 r6 r7 hln hw

end Cert.Same

end
-- ==== Proof.lean ====
/- The certificate: every claim of Defs.lean, put together from the runs of the three programs and the comparison of their results. -/
module

public import proofs.«01_k».proof.Defs
public import proofs.«01_k».proof.Proof.Kernel.Whole
public import proofs.«01_k».proof.Proof.KernelIdeal.Whole
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_router_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_router_finite.Gen.facts,
  fun m ρ _ => Cert.Kernel.Whole.unchanged m ρ,
  fun m ρ _ => Cert.KernelIdeal.Whole.unchanged m ρ,
  fun m ρ _ => Cert.KernelIdeal.Whole.unchanged m ρ,
  fun m ρ _ => (θ_run Cert.ReferenceIdeal.defs _ _).mono
    (fun _ h => ⟨fun c => (h c).2, sem_eq_zero_of_no_sems (by decide) _⟩) (Cert.ReferenceIdeal.Value.run m ρ),
  fun m ρ _ => (θ_run Cert.ReferenceIdeal.defs _ _).mono
    (fun _ h => ⟨fun c => (h c).2, sem_eq_zero_of_no_sems (by decide) _⟩) (Cert.ReferenceIdeal.Value.run m ρ),
  trivial,
  Cert.Same.algebraic⟩

end Cert.Proof

end

end
